-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x32x256x64 : Shape := ⟨4, ![64, 32, 256, 64]⟩
abbrev S_ : Shape := ⟨0, ![]⟩
abbrev S1 : Shape := ⟨1, ![1]⟩
abbrev S2 : Shape := ⟨1, ![2]⟩
abbrev S1x1x1 : Shape := ⟨3, ![1, 1, 1]⟩
abbrev S64x1x256 : Shape := ⟨3, ![64, 1, 256]⟩
abbrev S64x256x1 : Shape := ⟨3, ![64, 256, 1]⟩
abbrev S64x32x256 : Shape := ⟨3, ![64, 32, 256]⟩
abbrev S1x1x256 : Shape := ⟨3, ![1, 1, 256]⟩
abbrev S1x256x1 : Shape := ⟨3, ![1, 256, 1]⟩
abbrev S1x32x256x64 : Shape := ⟨4, ![1, 32, 256, 64]⟩
abbrev S1x32x256 : Shape := ⟨3, ![1, 32, 256]⟩
abbrev S1x256 : Shape := ⟨2, ![1, 256]⟩
abbrev S256x1 : Shape := ⟨2, ![256, 1]⟩
abbrev S256x256 : Shape := ⟨2, ![256, 256]⟩
abbrev S256 : Shape := ⟨1, ![256]⟩
abbrev S1x1x256x1 : Shape := ⟨4, ![1, 1, 256, 1]⟩
abbrev S32x256 : Shape := ⟨2, ![32, 256]⟩

abbrev nBuf : Space → Nat
  | .hbm => 287
  | .vmem => 10
  | .smem => 0
  | _ => 0

abbrev hbmTy0_0 (i : Nat) : BufTy := match i % 128 with
  | 0 => ⟨S64x32x256x64, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1x1, .f32⟩
  | 16 => ⟨S1x1x1, .f32⟩
  | 17 => ⟨S1, .i32⟩
  | 18 => ⟨S_, .i32⟩
  | 19 => ⟨S1, .i32⟩
  | 20 => ⟨S_, .i32⟩
  | 21 => ⟨S64x1x256, .i64⟩
  | 22 => ⟨S64x1x256, .i64⟩
  | 23 => ⟨S64x1x256, .i64⟩
  | 24 => ⟨S_, .i64⟩
  | 25 => ⟨S64x1x256, .i64⟩
  | 26 => ⟨S64x1x256, .i64⟩
  | 27 => ⟨S_, .i64⟩
  | 28 => ⟨S64x1x256, .i64⟩
  | 29 => ⟨S64x1x256, .i64⟩
  | 30 => ⟨S_, .i64⟩
  | 31 => ⟨S64x1x256, .i64⟩
  | 32 => ⟨S64x1x256, .i64⟩
  | 33 => ⟨S64x1x256, .i64⟩
  | 34 => ⟨S64x1x256, .i64⟩
  | 35 => ⟨S_, .i64⟩
  | 36 => ⟨S64x1x256, .i64⟩
  | 37 => ⟨S64x1x256, .i64⟩
  | 38 => ⟨S64x1x256, .i32⟩
  | 39 => ⟨S64x1x256, .i32⟩
  | 40 => ⟨S_, .i32⟩
  | 41 => ⟨S_, .i32⟩
  | 42 => ⟨S_, .i32⟩
  | 43 => ⟨S64x1x256, .i32⟩
  | 44 => ⟨S64x1x256, .i32⟩
  | 45 => ⟨S64x1x256, .i32⟩
  | 46 => ⟨S64x1x256, .i32⟩
  | 47 => ⟨S64x1x256, .i32⟩
  | 48 => ⟨S_, .i32⟩
  | 49 => ⟨S64x1x256, .i32⟩
  | 50 => ⟨S64x1x256, .i32⟩
  | 51 => ⟨S_, .i32⟩
  | 52 => ⟨S64x1x256, .i32⟩
  | 53 => ⟨S64x1x256, .i32⟩
  | 54 => ⟨S64x1x256, .i32⟩
  | 55 => ⟨S64x1x256, .i32⟩
  | 56 => ⟨S64x1x256, .i32⟩
  | 57 => ⟨S_, .i32⟩
  | 58 => ⟨S64x1x256, .i32⟩
  | 59 => ⟨S64x1x256, .i32⟩
  | 60 => ⟨S_, .i32⟩
  | 61 => ⟨S64x1x256, .i32⟩
  | 62 => ⟨S64x1x256, .i32⟩
  | 63 => ⟨S64x1x256, .i32⟩
  | 64 => ⟨S64x1x256, .i32⟩
  | 65 => ⟨S64x1x256, .i32⟩
  | 66 => ⟨S_, .i32⟩
  | 67 => ⟨S64x1x256, .i32⟩
  | 68 => ⟨S64x1x256, .i32⟩
  | 69 => ⟨S_, .i32⟩
  | 70 => ⟨S64x1x256, .i32⟩
  | 71 => ⟨S64x1x256, .i32⟩
  | 72 => ⟨S64x1x256, .i32⟩
  | 73 => ⟨S64x1x256, .i32⟩
  | 74 => ⟨S64x1x256, .i32⟩
  | 75 => ⟨S_, .i32⟩
  | 76 => ⟨S64x1x256, .i32⟩
  | 77 => ⟨S64x1x256, .i32⟩
  | 78 => ⟨S_, .i32⟩
  | 79 => ⟨S64x1x256, .i32⟩
  | 80 => ⟨S64x1x256, .i32⟩
  | 81 => ⟨S64x1x256, .i32⟩
  | 82 => ⟨S64x1x256, .i32⟩
  | 83 => ⟨S64x1x256, .i32⟩
  | 84 => ⟨S64x1x256, .i32⟩
  | 85 => ⟨S64x1x256, .i32⟩
  | 86 => ⟨S64x1x256, .i32⟩
  | 87 => ⟨S_, .i32⟩
  | 88 => ⟨S64x1x256, .i32⟩
  | 89 => ⟨S64x1x256, .i32⟩
  | 90 => ⟨S64x1x256, .i32⟩
  | 91 => ⟨S_, .i32⟩
  | 92 => ⟨S64x1x256, .i32⟩
  | 93 => ⟨S64x1x256, .i32⟩
  | 94 => ⟨S_, .i32⟩
  | 95 => ⟨S64x1x256, .i32⟩
  | 96 => ⟨S64x1x256, .i32⟩
  | 97 => ⟨S64x1x256, .i32⟩
  | 98 => ⟨S64x1x256, .i32⟩
  | 99 => ⟨S64x1x256, .i32⟩
  | 100 => ⟨S_, .i32⟩
  | 101 => ⟨S64x1x256, .i32⟩
  | 102 => ⟨S64x1x256, .i32⟩
  | 103 => ⟨S_, .i32⟩
  | 104 => ⟨S64x1x256, .i32⟩
  | 105 => ⟨S64x1x256, .i32⟩
  | 106 => ⟨S64x1x256, .i32⟩
  | 107 => ⟨S64x1x256, .i32⟩
  | 108 => ⟨S64x1x256, .i32⟩
  | 109 => ⟨S_, .i32⟩
  | 110 => ⟨S64x1x256, .i32⟩
  | 111 => ⟨S64x1x256, .i32⟩
  | 112 => ⟨S_, .i32⟩
  | 113 => ⟨S64x1x256, .i32⟩
  | 114 => ⟨S64x1x256, .i32⟩
  | 115 => ⟨S64x1x256, .i32⟩
  | 116 => ⟨S64x1x256, .i32⟩
  | 117 => ⟨S64x1x256, .i32⟩
  | 118 => ⟨S_, .i32⟩
  | 119 => ⟨S64x1x256, .i32⟩
  | 120 => ⟨S64x1x256, .i32⟩
  | 121 => ⟨S_, .i32⟩
  | 122 => ⟨S64x1x256, .i32⟩
  | 123 => ⟨S64x1x256, .i32⟩
  | 124 => ⟨S64x1x256, .i32⟩
  | 125 => ⟨S64x1x256, .i32⟩
  | 126 => ⟨S64x1x256, .i32⟩
  | 127 => ⟨S64x1x256, .i32⟩
  | _ => ⟨S64x32x256x64, .f32⟩

abbrev hbmTy0_1 (i : Nat) : BufTy := match i % 128 with
  | 0 => ⟨S64x1x256, .i32⟩
  | 1 => ⟨S64x1x256, .i32⟩
  | 2 => ⟨S_, .i32⟩
  | 3 => ⟨S64x1x256, .i32⟩
  | 4 => ⟨S64x1x256, .i32⟩
  | 5 => ⟨S64x1x256, .i32⟩
  | 6 => ⟨S_, .i32⟩
  | 7 => ⟨S64x1x256, .i32⟩
  | 8 => ⟨S64x1x256, .i32⟩
  | 9 => ⟨S_, .i32⟩
  | 10 => ⟨S64x1x256, .i32⟩
  | 11 => ⟨S64x1x256, .i32⟩
  | 12 => ⟨S64x1x256, .i32⟩
  | 13 => ⟨S64x1x256, .i32⟩
  | 14 => ⟨S64x1x256, .i32⟩
  | 15 => ⟨S_, .i32⟩
  | 16 => ⟨S64x1x256, .i32⟩
  | 17 => ⟨S64x1x256, .i32⟩
  | 18 => ⟨S_, .i32⟩
  | 19 => ⟨S64x1x256, .i32⟩
  | 20 => ⟨S64x1x256, .i32⟩
  | 21 => ⟨S64x1x256, .i32⟩
  | 22 => ⟨S64x1x256, .i32⟩
  | 23 => ⟨S64x1x256, .i32⟩
  | 24 => ⟨S_, .i32⟩
  | 25 => ⟨S64x1x256, .i32⟩
  | 26 => ⟨S64x1x256, .i32⟩
  | 27 => ⟨S_, .i32⟩
  | 28 => ⟨S64x1x256, .i32⟩
  | 29 => ⟨S64x1x256, .i32⟩
  | 30 => ⟨S64x1x256, .i32⟩
  | 31 => ⟨S64x1x256, .i32⟩
  | 32 => ⟨S64x1x256, .i32⟩
  | 33 => ⟨S_, .i32⟩
  | 34 => ⟨S64x1x256, .i32⟩
  | 35 => ⟨S64x1x256, .i32⟩
  | 36 => ⟨S_, .i32⟩
  | 37 => ⟨S64x1x256, .i32⟩
  | 38 => ⟨S64x1x256, .i32⟩
  | 39 => ⟨S64x1x256, .i32⟩
  | 40 => ⟨S64x1x256, .i32⟩
  | 41 => ⟨S64x1x256, .i32⟩
  | 42 => ⟨S64x1x256, .i32⟩
  | 43 => ⟨S64x1x256, .i32⟩
  | 44 => ⟨S64x1x256, .i32⟩
  | 45 => ⟨S_, .i32⟩
  | 46 => ⟨S64x1x256, .i32⟩
  | 47 => ⟨S64x1x256, .i32⟩
  | 48 => ⟨S64x1x256, .i32⟩
  | 49 => ⟨S_, .i32⟩
  | 50 => ⟨S64x1x256, .i32⟩
  | 51 => ⟨S64x1x256, .i32⟩
  | 52 => ⟨S_, .i32⟩
  | 53 => ⟨S64x1x256, .i32⟩
  | 54 => ⟨S64x1x256, .i32⟩
  | 55 => ⟨S64x1x256, .i32⟩
  | 56 => ⟨S64x1x256, .i32⟩
  | 57 => ⟨S64x1x256, .i32⟩
  | 58 => ⟨S_, .i32⟩
  | 59 => ⟨S64x1x256, .i32⟩
  | 60 => ⟨S64x1x256, .i32⟩
  | 61 => ⟨S_, .i32⟩
  | 62 => ⟨S64x1x256, .i32⟩
  | 63 => ⟨S64x1x256, .i32⟩
  | 64 => ⟨S64x1x256, .i32⟩
  | 65 => ⟨S64x1x256, .i32⟩
  | 66 => ⟨S64x1x256, .i32⟩
  | 67 => ⟨S_, .i32⟩
  | 68 => ⟨S64x1x256, .i32⟩
  | 69 => ⟨S64x1x256, .i32⟩
  | 70 => ⟨S_, .i32⟩
  | 71 => ⟨S64x1x256, .i32⟩
  | 72 => ⟨S64x1x256, .i32⟩
  | 73 => ⟨S64x1x256, .i32⟩
  | 74 => ⟨S64x1x256, .i32⟩
  | 75 => ⟨S64x1x256, .i32⟩
  | 76 => ⟨S_, .i32⟩
  | 77 => ⟨S64x1x256, .i32⟩
  | 78 => ⟨S64x1x256, .i32⟩
  | 79 => ⟨S_, .i32⟩
  | 80 => ⟨S64x1x256, .i32⟩
  | 81 => ⟨S64x1x256, .i32⟩
  | 82 => ⟨S64x1x256, .i32⟩
  | 83 => ⟨S64x1x256, .i32⟩
  | 84 => ⟨S64x1x256, .i32⟩
  | 85 => ⟨S64x1x256, .i32⟩
  | 86 => ⟨S64x1x256, .i32⟩
  | 87 => ⟨S64x1x256, .i32⟩
  | 88 => ⟨S_, .i32⟩
  | 89 => ⟨S64x1x256, .i32⟩
  | 90 => ⟨S64x1x256, .i32⟩
  | 91 => ⟨S64x1x256, .i32⟩
  | 92 => ⟨S_, .i32⟩
  | 93 => ⟨S64x1x256, .i32⟩
  | 94 => ⟨S64x1x256, .i32⟩
  | 95 => ⟨S_, .i32⟩
  | 96 => ⟨S64x1x256, .i32⟩
  | 97 => ⟨S64x1x256, .i32⟩
  | 98 => ⟨S64x1x256, .i32⟩
  | 99 => ⟨S64x1x256, .i32⟩
  | 100 => ⟨S64x1x256, .i32⟩
  | 101 => ⟨S_, .i32⟩
  | 102 => ⟨S64x1x256, .i32⟩
  | 103 => ⟨S64x1x256, .i32⟩
  | 104 => ⟨S_, .i32⟩
  | 105 => ⟨S64x1x256, .i32⟩
  | 106 => ⟨S64x1x256, .i32⟩
  | 107 => ⟨S64x1x256, .i32⟩
  | 108 => ⟨S64x1x256, .i32⟩
  | 109 => ⟨S64x1x256, .i32⟩
  | 110 => ⟨S_, .i32⟩
  | 111 => ⟨S64x1x256, .i32⟩
  | 112 => ⟨S64x1x256, .i32⟩
  | 113 => ⟨S_, .i32⟩
  | 114 => ⟨S64x1x256, .i32⟩
  | 115 => ⟨S64x1x256, .i32⟩
  | 116 => ⟨S64x1x256, .i32⟩
  | 117 => ⟨S64x1x256, .i32⟩
  | 118 => ⟨S64x1x256, .i32⟩
  | 119 => ⟨S_, .i32⟩
  | 120 => ⟨S64x1x256, .i32⟩
  | 121 => ⟨S64x1x256, .i32⟩
  | 122 => ⟨S_, .i32⟩
  | 123 => ⟨S64x1x256, .i32⟩
  | 124 => ⟨S64x1x256, .i32⟩
  | 125 => ⟨S64x1x256, .i32⟩
  | 126 => ⟨S64x1x256, .i32⟩
  | 127 => ⟨S64x1x256, .i32⟩
  | _ => ⟨S64x32x256x64, .f32⟩

abbrev hbmTy0_2 (i : Nat) : BufTy := match i % 128 with
  | 0 => ⟨S64x1x256, .i32⟩
  | 1 => ⟨S64x1x256, .i32⟩
  | 2 => ⟨S64x1x256, .i32⟩
  | 3 => ⟨S_, .i32⟩
  | 4 => ⟨S64x1x256, .i32⟩
  | 5 => ⟨S64x1x256, .i32⟩
  | 6 => ⟨S64x1x256, .i32⟩
  | 7 => ⟨S_, .i32⟩
  | 8 => ⟨S64x1x256, .i32⟩
  | 9 => ⟨S64x1x256, .i32⟩
  | 10 => ⟨S_, .i32⟩
  | 11 => ⟨S64x1x256, .i32⟩
  | 12 => ⟨S64x1x256, .i32⟩
  | 13 => ⟨S64x1x256, .f32⟩
  | 14 => ⟨S_, .f32⟩
  | 15 => ⟨S64x1x256, .f32⟩
  | 16 => ⟨S64x1x256, .f32⟩
  | 17 => ⟨S1x1x1, .f32⟩
  | 18 => ⟨S64x1x256, .f32⟩
  | 19 => ⟨S64x1x256, .f32⟩
  | 20 => ⟨S64x1x256, .f32⟩
  | 21 => ⟨S64x1x256, .f32⟩
  | 22 => ⟨S64x1x256, .f32⟩
  | 23 => ⟨S64x1x256, .f32⟩
  | 24 => ⟨S64x256x1, .f32⟩
  | 25 => ⟨S64x32x256x64, .f32⟩
  | 26 => ⟨S64x32x256, .f32⟩
  | 27 => ⟨S_, .f32⟩
  | 28 => ⟨S64x32x256, .f32⟩
  | 29 => ⟨S64x32x256, .i1⟩
  | 30 => ⟨S64x32x256, .i1⟩
  | _ => ⟨S64x32x256x64, .f32⟩

abbrev hbmTy (i : Nat) : BufTy := match i / 128 with
  | 0 => hbmTy0_0 i
  | 1 => hbmTy0_1 i
  | 2 => hbmTy0_2 i
  | _ => ⟨S64x32x256x64, .f32⟩

abbrev bufTy : (tb : Table) → Fin (tcTables nBuf tb) → BufTy
  | .hbm, ⟨i, _⟩ => hbmTy i
  | .local _ .vmem, ⟨0, _⟩ => ⟨S1x1x256, .f32⟩
  | .local _ .vmem, ⟨1, _⟩ => ⟨S1x1x256, .f32⟩
  | .local _ .vmem, ⟨2, _⟩ => ⟨S1x256x1, .f32⟩
  | .local _ .vmem, ⟨3, _⟩ => ⟨S1x256x1, .f32⟩
  | .local _ .vmem, ⟨4, _⟩ => ⟨S1x32x256x64, .f32⟩
  | .local _ .vmem, ⟨5, _⟩ => ⟨S1x32x256x64, .f32⟩
  | .local _ .vmem, ⟨6, _⟩ => ⟨S1x32x256x64, .f32⟩
  | .local _ .vmem, ⟨7, _⟩ => ⟨S1x32x256x64, .f32⟩
  | .local _ .vmem, ⟨8, _⟩ => ⟨S1x32x256, .f32⟩
  | .local _ .vmem, ⟨9, _⟩ => ⟨S1x32x256, .f32⟩
  | _, _ => ⟨S64x32x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c : Ref sig .tc := ⟨.hbm, 24, rfl⟩
abbrev main_call0_v11 : Ref sig .tc := ⟨.hbm, 25, rfl⟩
abbrev main_call0_v12 : Ref sig .tc := ⟨.hbm, 26, rfl⟩
abbrev main_call0_c_0 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_c_2 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v23_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v23_1 : Ref sig .tc := ⟨.hbm, 261, rfl⟩
abbrev main_call0_v24 : Ref sig .tc := ⟨.hbm, 262, rfl⟩
abbrev main_call0_c_3 : Ref sig .tc := ⟨.hbm, 263, rfl⟩
abbrev main_call0_v25 : Ref sig .tc := ⟨.hbm, 264, rfl⟩
abbrev main_call0_v26 : Ref sig .tc := ⟨.hbm, 265, rfl⟩
abbrev main_call0_c_4 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_cst : Ref sig .tc := ⟨.hbm, 270, rfl⟩
abbrev main_call0_v30 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_call0_v34 : Ref sig .tc := ⟨.hbm, 275, rfl⟩
abbrev main_call0_v35 : Ref sig .tc := ⟨.hbm, 276, rfl⟩
abbrev main_call0_v36 : Ref sig .tc := ⟨.hbm, 277, rfl⟩
abbrev main_call0_v37 : Ref sig .tc := ⟨.hbm, 278, rfl⟩
abbrev main_v7 : Ref sig .tc := ⟨.hbm, 279, rfl⟩
abbrev main_v8 : Ref sig .tc := ⟨.hbm, 280, rfl⟩
abbrev main_v9_0 : Ref sig .tc := ⟨.hbm, 281, rfl⟩
abbrev main_v9_1 : Ref sig .tc := ⟨.hbm, 282, rfl⟩
abbrev main_cst_3 : Ref sig .tc := ⟨.hbm, 283, rfl⟩
abbrev main_v10 : Ref sig .tc := ⟨.hbm, 284, rfl⟩
abbrev main_v11 : Ref sig .tc := ⟨.hbm, 285, rfl⟩
abbrev main_v12 : Ref sig .tc := ⟨.hbm, 286, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S64x32x256x64 : Shape := ⟨4, ![64, 32, 256, 64]⟩
abbrev S_ : Shape := ⟨0, ![]⟩
abbrev S1 : Shape := ⟨1, ![1]⟩
abbrev S2 : Shape := ⟨1, ![2]⟩
abbrev S1x1x1 : Shape := ⟨3, ![1, 1, 1]⟩
abbrev S64x1x256 : Shape := ⟨3, ![64, 1, 256]⟩
abbrev S1x64x1x1x1x256 : Shape := ⟨6, ![1, 64, 1, 1, 1, 256]⟩
abbrev S1x64x32x1x1x256 : Shape := ⟨6, ![1, 64, 32, 1, 1, 256]⟩
abbrev S64x32x256 : Shape := ⟨3, ![64, 32, 256]⟩
abbrev S64x32x128 : Shape := ⟨3, ![64, 32, 128]⟩
abbrev S64x32x256x1 : Shape := ⟨4, ![64, 32, 256, 1]⟩
abbrev S1x1x1x1 : Shape := ⟨4, ![1, 1, 1, 1]⟩
abbrev S64x32x256x1x64 : Shape := ⟨5, ![64, 32, 256, 1, 64]⟩

abbrev nBuf : Space → Nat
  | .hbm => 332
  | .vmem => 0
  | .smem => 0
  | _ => 0

abbrev hbmTy0_0 (i : Nat) : BufTy := match i % 128 with
  | 0 => ⟨S64x32x256x64, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1x1, .f32⟩
  | 16 => ⟨S1x1x1, .f32⟩
  | 17 => ⟨S1, .i32⟩
  | 18 => ⟨S_, .i32⟩
  | 19 => ⟨S1, .i32⟩
  | 20 => ⟨S_, .i32⟩
  | 21 => ⟨S64x1x256, .i64⟩
  | 22 => ⟨S64x1x256, .i64⟩
  | 23 => ⟨S64x1x256, .i64⟩
  | 24 => ⟨S_, .i64⟩
  | 25 => ⟨S64x1x256, .i64⟩
  | 26 => ⟨S64x1x256, .i64⟩
  | 27 => ⟨S_, .i64⟩
  | 28 => ⟨S64x1x256, .i64⟩
  | 29 => ⟨S64x1x256, .i64⟩
  | 30 => ⟨S_, .i64⟩
  | 31 => ⟨S64x1x256, .i64⟩
  | 32 => ⟨S64x1x256, .i64⟩
  | 33 => ⟨S64x1x256, .i64⟩
  | 34 => ⟨S64x1x256, .i64⟩
  | 35 => ⟨S_, .i64⟩
  | 36 => ⟨S64x1x256, .i64⟩
  | 37 => ⟨S64x1x256, .i64⟩
  | 38 => ⟨S64x1x256, .i32⟩
  | 39 => ⟨S64x1x256, .i32⟩
  | 40 => ⟨S_, .i32⟩
  | 41 => ⟨S_, .i32⟩
  | 42 => ⟨S_, .i32⟩
  | 43 => ⟨S64x1x256, .i32⟩
  | 44 => ⟨S64x1x256, .i32⟩
  | 45 => ⟨S64x1x256, .i32⟩
  | 46 => ⟨S64x1x256, .i32⟩
  | 47 => ⟨S64x1x256, .i32⟩
  | 48 => ⟨S_, .i32⟩
  | 49 => ⟨S64x1x256, .i32⟩
  | 50 => ⟨S64x1x256, .i32⟩
  | 51 => ⟨S_, .i32⟩
  | 52 => ⟨S64x1x256, .i32⟩
  | 53 => ⟨S64x1x256, .i32⟩
  | 54 => ⟨S64x1x256, .i32⟩
  | 55 => ⟨S64x1x256, .i32⟩
  | 56 => ⟨S64x1x256, .i32⟩
  | 57 => ⟨S_, .i32⟩
  | 58 => ⟨S64x1x256, .i32⟩
  | 59 => ⟨S64x1x256, .i32⟩
  | 60 => ⟨S_, .i32⟩
  | 61 => ⟨S64x1x256, .i32⟩
  | 62 => ⟨S64x1x256, .i32⟩
  | 63 => ⟨S64x1x256, .i32⟩
  | 64 => ⟨S64x1x256, .i32⟩
  | 65 => ⟨S64x1x256, .i32⟩
  | 66 => ⟨S_, .i32⟩
  | 67 => ⟨S64x1x256, .i32⟩
  | 68 => ⟨S64x1x256, .i32⟩
  | 69 => ⟨S_, .i32⟩
  | 70 => ⟨S64x1x256, .i32⟩
  | 71 => ⟨S64x1x256, .i32⟩
  | 72 => ⟨S64x1x256, .i32⟩
  | 73 => ⟨S64x1x256, .i32⟩
  | 74 => ⟨S64x1x256, .i32⟩
  | 75 => ⟨S_, .i32⟩
  | 76 => ⟨S64x1x256, .i32⟩
  | 77 => ⟨S64x1x256, .i32⟩
  | 78 => ⟨S_, .i32⟩
  | 79 => ⟨S64x1x256, .i32⟩
  | 80 => ⟨S64x1x256, .i32⟩
  | 81 => ⟨S64x1x256, .i32⟩
  | 82 => ⟨S64x1x256, .i32⟩
  | 83 => ⟨S64x1x256, .i32⟩
  | 84 => ⟨S64x1x256, .i32⟩
  | 85 => ⟨S64x1x256, .i32⟩
  | 86 => ⟨S64x1x256, .i32⟩
  | 87 => ⟨S_, .i32⟩
  | 88 => ⟨S64x1x256, .i32⟩
  | 89 => ⟨S64x1x256, .i32⟩
  | 90 => ⟨S64x1x256, .i32⟩
  | 91 => ⟨S_, .i32⟩
  | 92 => ⟨S64x1x256, .i32⟩
  | 93 => ⟨S64x1x256, .i32⟩
  | 94 => ⟨S_, .i32⟩
  | 95 => ⟨S64x1x256, .i32⟩
  | 96 => ⟨S64x1x256, .i32⟩
  | 97 => ⟨S64x1x256, .i32⟩
  | 98 => ⟨S64x1x256, .i32⟩
  | 99 => ⟨S64x1x256, .i32⟩
  | 100 => ⟨S_, .i32⟩
  | 101 => ⟨S64x1x256, .i32⟩
  | 102 => ⟨S64x1x256, .i32⟩
  | 103 => ⟨S_, .i32⟩
  | 104 => ⟨S64x1x256, .i32⟩
  | 105 => ⟨S64x1x256, .i32⟩
  | 106 => ⟨S64x1x256, .i32⟩
  | 107 => ⟨S64x1x256, .i32⟩
  | 108 => ⟨S64x1x256, .i32⟩
  | 109 => ⟨S_, .i32⟩
  | 110 => ⟨S64x1x256, .i32⟩
  | 111 => ⟨S64x1x256, .i32⟩
  | 112 => ⟨S_, .i32⟩
  | 113 => ⟨S64x1x256, .i32⟩
  | 114 => ⟨S64x1x256, .i32⟩
  | 115 => ⟨S64x1x256, .i32⟩
  | 116 => ⟨S64x1x256, .i32⟩
  | 117 => ⟨S64x1x256, .i32⟩
  | 118 => ⟨S_, .i32⟩
  | 119 => ⟨S64x1x256, .i32⟩
  | 120 => ⟨S64x1x256, .i32⟩
  | 121 => ⟨S_, .i32⟩
  | 122 => ⟨S64x1x256, .i32⟩
  | 123 => ⟨S64x1x256, .i32⟩
  | 124 => ⟨S64x1x256, .i32⟩
  | 125 => ⟨S64x1x256, .i32⟩
  | 126 => ⟨S64x1x256, .i32⟩
  | 127 => ⟨S64x1x256, .i32⟩
  | _ => ⟨S64x32x256x64, .f32⟩

abbrev hbmTy0_1 (i : Nat) : BufTy := match i % 128 with
  | 0 => ⟨S64x1x256, .i32⟩
  | 1 => ⟨S64x1x256, .i32⟩
  | 2 => ⟨S_, .i32⟩
  | 3 => ⟨S64x1x256, .i32⟩
  | 4 => ⟨S64x1x256, .i32⟩
  | 5 => ⟨S64x1x256, .i32⟩
  | 6 => ⟨S_, .i32⟩
  | 7 => ⟨S64x1x256, .i32⟩
  | 8 => ⟨S64x1x256, .i32⟩
  | 9 => ⟨S_, .i32⟩
  | 10 => ⟨S64x1x256, .i32⟩
  | 11 => ⟨S64x1x256, .i32⟩
  | 12 => ⟨S64x1x256, .i32⟩
  | 13 => ⟨S64x1x256, .i32⟩
  | 14 => ⟨S64x1x256, .i32⟩
  | 15 => ⟨S_, .i32⟩
  | 16 => ⟨S64x1x256, .i32⟩
  | 17 => ⟨S64x1x256, .i32⟩
  | 18 => ⟨S_, .i32⟩
  | 19 => ⟨S64x1x256, .i32⟩
  | 20 => ⟨S64x1x256, .i32⟩
  | 21 => ⟨S64x1x256, .i32⟩
  | 22 => ⟨S64x1x256, .i32⟩
  | 23 => ⟨S64x1x256, .i32⟩
  | 24 => ⟨S_, .i32⟩
  | 25 => ⟨S64x1x256, .i32⟩
  | 26 => ⟨S64x1x256, .i32⟩
  | 27 => ⟨S_, .i32⟩
  | 28 => ⟨S64x1x256, .i32⟩
  | 29 => ⟨S64x1x256, .i32⟩
  | 30 => ⟨S64x1x256, .i32⟩
  | 31 => ⟨S64x1x256, .i32⟩
  | 32 => ⟨S64x1x256, .i32⟩
  | 33 => ⟨S_, .i32⟩
  | 34 => ⟨S64x1x256, .i32⟩
  | 35 => ⟨S64x1x256, .i32⟩
  | 36 => ⟨S_, .i32⟩
  | 37 => ⟨S64x1x256, .i32⟩
  | 38 => ⟨S64x1x256, .i32⟩
  | 39 => ⟨S64x1x256, .i32⟩
  | 40 => ⟨S64x1x256, .i32⟩
  | 41 => ⟨S64x1x256, .i32⟩
  | 42 => ⟨S64x1x256, .i32⟩
  | 43 => ⟨S64x1x256, .i32⟩
  | 44 => ⟨S64x1x256, .i32⟩
  | 45 => ⟨S_, .i32⟩
  | 46 => ⟨S64x1x256, .i32⟩
  | 47 => ⟨S64x1x256, .i32⟩
  | 48 => ⟨S64x1x256, .i32⟩
  | 49 => ⟨S_, .i32⟩
  | 50 => ⟨S64x1x256, .i32⟩
  | 51 => ⟨S64x1x256, .i32⟩
  | 52 => ⟨S_, .i32⟩
  | 53 => ⟨S64x1x256, .i32⟩
  | 54 => ⟨S64x1x256, .i32⟩
  | 55 => ⟨S64x1x256, .i32⟩
  | 56 => ⟨S64x1x256, .i32⟩
  | 57 => ⟨S64x1x256, .i32⟩
  | 58 => ⟨S_, .i32⟩
  | 59 => ⟨S64x1x256, .i32⟩
  | 60 => ⟨S64x1x256, .i32⟩
  | 61 => ⟨S_, .i32⟩
  | 62 => ⟨S64x1x256, .i32⟩
  | 63 => ⟨S64x1x256, .i32⟩
  | 64 => ⟨S64x1x256, .i32⟩
  | 65 => ⟨S64x1x256, .i32⟩
  | 66 => ⟨S64x1x256, .i32⟩
  | 67 => ⟨S_, .i32⟩
  | 68 => ⟨S64x1x256, .i32⟩
  | 69 => ⟨S64x1x256, .i32⟩
  | 70 => ⟨S_, .i32⟩
  | 71 => ⟨S64x1x256, .i32⟩
  | 72 => ⟨S64x1x256, .i32⟩
  | 73 => ⟨S64x1x256, .i32⟩
  | 74 => ⟨S64x1x256, .i32⟩
  | 75 => ⟨S64x1x256, .i32⟩
  | 76 => ⟨S_, .i32⟩
  | 77 => ⟨S64x1x256, .i32⟩
  | 78 => ⟨S64x1x256, .i32⟩
  | 79 => ⟨S_, .i32⟩
  | 80 => ⟨S64x1x256, .i32⟩
  | 81 => ⟨S64x1x256, .i32⟩
  | 82 => ⟨S64x1x256, .i32⟩
  | 83 => ⟨S64x1x256, .i32⟩
  | 84 => ⟨S64x1x256, .i32⟩
  | 85 => ⟨S64x1x256, .i32⟩
  | 86 => ⟨S64x1x256, .i32⟩
  | 87 => ⟨S64x1x256, .i32⟩
  | 88 => ⟨S_, .i32⟩
  | 89 => ⟨S64x1x256, .i32⟩
  | 90 => ⟨S64x1x256, .i32⟩
  | 91 => ⟨S64x1x256, .i32⟩
  | 92 => ⟨S_, .i32⟩
  | 93 => ⟨S64x1x256, .i32⟩
  | 94 => ⟨S64x1x256, .i32⟩
  | 95 => ⟨S_, .i32⟩
  | 96 => ⟨S64x1x256, .i32⟩
  | 97 => ⟨S64x1x256, .i32⟩
  | 98 => ⟨S64x1x256, .i32⟩
  | 99 => ⟨S64x1x256, .i32⟩
  | 100 => ⟨S64x1x256, .i32⟩
  | 101 => ⟨S_, .i32⟩
  | 102 => ⟨S64x1x256, .i32⟩
  | 103 => ⟨S64x1x256, .i32⟩
  | 104 => ⟨S_, .i32⟩
  | 105 => ⟨S64x1x256, .i32⟩
  | 106 => ⟨S64x1x256, .i32⟩
  | 107 => ⟨S64x1x256, .i32⟩
  | 108 => ⟨S64x1x256, .i32⟩
  | 109 => ⟨S64x1x256, .i32⟩
  | 110 => ⟨S_, .i32⟩
  | 111 => ⟨S64x1x256, .i32⟩
  | 112 => ⟨S64x1x256, .i32⟩
  | 113 => ⟨S_, .i32⟩
  | 114 => ⟨S64x1x256, .i32⟩
  | 115 => ⟨S64x1x256, .i32⟩
  | 116 => ⟨S64x1x256, .i32⟩
  | 117 => ⟨S64x1x256, .i32⟩
  | 118 => ⟨S64x1x256, .i32⟩
  | 119 => ⟨S_, .i32⟩
  | 120 => ⟨S64x1x256, .i32⟩
  | 121 => ⟨S64x1x256, .i32⟩
  | 122 => ⟨S_, .i32⟩
  | 123 => ⟨S64x1x256, .i32⟩
  | 124 => ⟨S64x1x256, .i32⟩
  | 125 => ⟨S64x1x256, .i32⟩
  | 126 => ⟨S64x1x256, .i32⟩
  | 127 => ⟨S64x1x256, .i32⟩
  | _ => ⟨S64x32x256x64, .f32⟩

abbrev hbmTy0_2 (i : Nat) : BufTy := match i % 128 with
  | 0 => ⟨S64x1x256, .i32⟩
  | 1 => ⟨S64x1x256, .i32⟩
  | 2 => ⟨S64x1x256, .i32⟩
  | 3 => ⟨S_, .i32⟩
  | 4 => ⟨S64x1x256, .i32⟩
  | 5 => ⟨S64x1x256, .i32⟩
  | 6 => ⟨S64x1x256, .i32⟩
  | 7 => ⟨S_, .i32⟩
  | 8 => ⟨S64x1x256, .i32⟩
  | 9 => ⟨S64x1x256, .i32⟩
  | 10 => ⟨S_, .i32⟩
  | 11 => ⟨S64x1x256, .i32⟩
  | 12 => ⟨S64x1x256, .i32⟩
  | 13 => ⟨S64x1x256, .f32⟩
  | 14 => ⟨S_, .f32⟩
  | 15 => ⟨S64x1x256, .f32⟩
  | 16 => ⟨S64x1x256, .f32⟩
  | 17 => ⟨S1x1x1, .f32⟩
  | 18 => ⟨S64x1x256, .f32⟩
  | 19 => ⟨S64x1x256, .f32⟩
  | 20 => ⟨S64x1x256, .f32⟩
  | 21 => ⟨S64x1x256, .f32⟩
  | 22 => ⟨S64x1x256, .f32⟩
  | 23 => ⟨S64x1x256, .f32⟩
  | 24 => ⟨S1x64x1x1x1x256, .f32⟩
  | 25 => ⟨S1x64x32x1x1x256, .f32⟩
  | 26 => ⟨S64x32x256, .f32⟩
  | 27 => ⟨S_, .f32⟩
  | 28 => ⟨S64x32x256, .f32⟩
  | 29 => ⟨S_, .i32⟩
  | 30 => ⟨S1, .i32⟩
  | 31 => ⟨S_, .f32⟩
  | 32 => ⟨S64x32x128, .f32⟩
  | 33 => ⟨S64x32x256, .f32⟩
  | 34 => ⟨S64x32x256, .i32⟩
  | 35 => ⟨S64x32x256, .f32⟩
  | 36 => ⟨S64x32x256, .i32⟩
  | 37 => ⟨S64x32x256, .i32⟩
  | 38 => ⟨S64x32x256, .i32⟩
  | 39 => ⟨S64x32x256, .i32⟩
  | 40 => ⟨S_, .i32⟩
  | 41 => ⟨S64x32x256, .i32⟩
  | 42 => ⟨S64x32x256, .i1⟩
  | 43 => ⟨S_, .i32⟩
  | 44 => ⟨S64x32x256, .i32⟩
  | 45 => ⟨S64x32x256, .i32⟩
  | 46 => ⟨S64x32x256, .i32⟩
  | 47 => ⟨S64x32x256x1, .i32⟩
  | 48 => ⟨S1, .i32⟩
  | 49 => ⟨S_, .i32⟩
  | 50 => ⟨S64x32x256x1, .i32⟩
  | 51 => ⟨S64x32x256x1, .i1⟩
  | 52 => ⟨S1x1x1x1, .i32⟩
  | 53 => ⟨S64x32x256x1, .i32⟩
  | 54 => ⟨S64x32x256x1, .i1⟩
  | 55 => ⟨S64x32x256x1, .i1⟩
  | 56 => ⟨S_, .i1⟩
  | 57 => ⟨S64x32x256, .i1⟩
  | 58 => ⟨S64x32x256, .f32⟩
  | 59 => ⟨S_, .f32⟩
  | 60 => ⟨S64x32x256, .f32⟩
  | 61 => ⟨S64x32x256, .f32⟩
  | 62 => ⟨S64x32x256x1, .f32⟩
  | 63 => ⟨S64x32x256x1x64, .f32⟩
  | 64 => ⟨S64x32x256x64, .f32⟩
  | 65 => ⟨S_, .f32⟩
  | 66 => ⟨S64x32x256x64, .f32⟩
  | 67 => ⟨S64x32x256x64, .i1⟩
  | 68 => ⟨S64x32x256x64, .i1⟩
  | 69 => ⟨S_, .f32⟩
  | 70 => ⟨S64x32x256x64, .f32⟩
  | 71 => ⟨S64x32x256x64, .f32⟩
  | 72 => ⟨S_, .f32⟩
  | 73 => ⟨S64x32x256, .f32⟩
  | 74 => ⟨S64x32x256, .i1⟩
  | 75 => ⟨S64x32x256, .i1⟩
  | _ => ⟨S64x32x256x64, .f32⟩

abbrev hbmTy (i : Nat) : BufTy := match i / 128 with
  | 0 => hbmTy0_0 i
  | 1 => hbmTy0_1 i
  | 2 => hbmTy0_2 i
  | _ => ⟨S64x32x256x64, .f32⟩

abbrev bufTy : (tb : Table) → Fin (tcTables nBuf tb) → BufTy
  | .hbm, ⟨i, _⟩ => hbmTy i
  | _, _ => ⟨S64x32x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c : Ref sig .tc := ⟨.hbm, 24, rfl⟩
abbrev main_call0_v11 : Ref sig .tc := ⟨.hbm, 25, rfl⟩
abbrev main_call0_v12 : Ref sig .tc := ⟨.hbm, 26, rfl⟩
abbrev main_call0_c_0 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_c_2 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v23_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v23_1 : Ref sig .tc := ⟨.hbm, 261, rfl⟩
abbrev main_call0_v24 : Ref sig .tc := ⟨.hbm, 262, rfl⟩
abbrev main_call0_c_3 : Ref sig .tc := ⟨.hbm, 263, rfl⟩
abbrev main_call0_v25 : Ref sig .tc := ⟨.hbm, 264, rfl⟩
abbrev main_call0_v26 : Ref sig .tc := ⟨.hbm, 265, rfl⟩
abbrev main_call0_c_4 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_cst : Ref sig .tc := ⟨.hbm, 270, rfl⟩
abbrev main_call0_v30 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_call0_v34 : Ref sig .tc := ⟨.hbm, 275, rfl⟩
abbrev main_call0_v35 : Ref sig .tc := ⟨.hbm, 276, rfl⟩
abbrev main_call0_v36 : Ref sig .tc := ⟨.hbm, 277, rfl⟩
abbrev main_call0_v37 : Ref sig .tc := ⟨.hbm, 278, rfl⟩
abbrev main_v7 : Ref sig .tc := ⟨.hbm, 279, rfl⟩
abbrev main_v8 : Ref sig .tc := ⟨.hbm, 280, rfl⟩
abbrev main_v9 : Ref sig .tc := ⟨.hbm, 281, rfl⟩
abbrev main_v10 : Ref sig .tc := ⟨.hbm, 282, rfl⟩
abbrev main_cst_3 : Ref sig .tc := ⟨.hbm, 283, rfl⟩
abbrev main_v11 : Ref sig .tc := ⟨.hbm, 284, rfl⟩
abbrev main_c_4 : Ref sig .tc := ⟨.hbm, 285, rfl⟩
abbrev main_v12 : Ref sig .tc := ⟨.hbm, 286, rfl⟩
abbrev main_cst_5 : Ref sig .tc := ⟨.hbm, 287, rfl⟩
abbrev main_v13 : Ref sig .tc := ⟨.hbm, 288, rfl⟩
abbrev main_v14 : Ref sig .tc := ⟨.hbm, 289, rfl⟩
abbrev main_call1_v0 : Ref sig .tc := ⟨.hbm, 290, rfl⟩
abbrev main_call1_v1_0 : Ref sig .tc := ⟨.hbm, 291, rfl⟩
abbrev main_v15 : Ref sig .tc := ⟨.hbm, 292, rfl⟩
abbrev main_call2_v0 : Ref sig .tc := ⟨.hbm, 293, rfl⟩
abbrev main_call2_v1_0 : Ref sig .tc := ⟨.hbm, 294, rfl⟩
abbrev main_v16 : Ref sig .tc := ⟨.hbm, 295, rfl⟩
abbrev main_call3_c : Ref sig .tc := ⟨.hbm, 296, rfl⟩
abbrev main_call3_v0 : Ref sig .tc := ⟨.hbm, 297, rfl⟩
abbrev main_call3_v1 : Ref sig .tc := ⟨.hbm, 298, rfl⟩
abbrev main_call3_c_0 : Ref sig .tc := ⟨.hbm, 299, rfl⟩
abbrev main_call3_v2 : Ref sig .tc := ⟨.hbm, 300, rfl⟩
abbrev main_call3_v3 : Ref sig .tc := ⟨.hbm, 301, rfl⟩
abbrev main_call3_v4 : Ref sig .tc := ⟨.hbm, 302, rfl⟩
abbrev main_call3_v5 : Ref sig .tc := ⟨.hbm, 303, rfl⟩
abbrev main_call3_c_1 : Ref sig .tc := ⟨.hbm, 304, rfl⟩
abbrev main_call3_c_2 : Ref sig .tc := ⟨.hbm, 305, rfl⟩
abbrev main_call3_v6 : Ref sig .tc := ⟨.hbm, 306, rfl⟩
abbrev main_call3_v7 : Ref sig .tc := ⟨.hbm, 307, rfl⟩
abbrev main_call3_v8 : Ref sig .tc := ⟨.hbm, 308, rfl⟩
abbrev main_call3_v9 : Ref sig .tc := ⟨.hbm, 309, rfl⟩
abbrev main_call3_v10 : Ref sig .tc := ⟨.hbm, 310, rfl⟩
abbrev main_call3_v11 : Ref sig .tc := ⟨.hbm, 311, rfl⟩
abbrev main_call3_c_3 : Ref sig .tc := ⟨.hbm, 312, rfl⟩
abbrev main_call3_v12 : Ref sig .tc := ⟨.hbm, 313, rfl⟩
abbrev main_call3_v13 : Ref sig .tc := ⟨.hbm, 314, rfl⟩
abbrev main_call3_cst : Ref sig .tc := ⟨.hbm, 315, rfl⟩
abbrev main_call3_v14 : Ref sig .tc := ⟨.hbm, 316, rfl⟩
abbrev main_v17 : Ref sig .tc := ⟨.hbm, 317, rfl⟩
abbrev main_v18 : Ref sig .tc := ⟨.hbm, 318, rfl⟩
abbrev main_v19 : Ref sig .tc := ⟨.hbm, 319, rfl⟩
abbrev main_v20 : Ref sig .tc := ⟨.hbm, 320, rfl⟩
abbrev main_cst_6 : Ref sig .tc := ⟨.hbm, 321, rfl⟩
abbrev main_v21 : Ref sig .tc := ⟨.hbm, 322, rfl⟩
abbrev main_v22 : Ref sig .tc := ⟨.hbm, 323, rfl⟩
abbrev main_v23 : Ref sig .tc := ⟨.hbm, 324, rfl⟩
abbrev main_cst_7 : Ref sig .tc := ⟨.hbm, 325, rfl⟩
abbrev main_call4_v0 : Ref sig .tc := ⟨.hbm, 326, rfl⟩
abbrev main_v24 : Ref sig .tc := ⟨.hbm, 327, rfl⟩
abbrev main_cst_8 : Ref sig .tc := ⟨.hbm, 328, rfl⟩
abbrev main_v25 : Ref sig .tc := ⟨.hbm, 329, rfl⟩
abbrev main_v26 : Ref sig .tc := ⟨.hbm, 330, rfl⟩
abbrev main_v27 : Ref sig .tc := ⟨.hbm, 331, rfl⟩

abbrev nD : Nat := 1
abbrev τ : Topo := Topo.v7x

variable {F : FTy → Type} [FloatOps F]
-- ==== Proof.Walk.lean ====
module

public import Idealize.ShloMosaic.Lib.StableHlo.RunHlo
public import Idealize.ShloMosaic.Lib.Pipeline.Frame

@[expose] public section

noncomputable section

namespace Cert.Proof.Noise

open Idealize.ShloMosaic Idealize.SL.Sem Idealize.ShloMosaic.StableHlo

variable {τ τ' : Topo} {sig sig' : RefSig} {Val : EltTy → Type}

/-- Two references name the device buffer at the same place `k` of the two programs' lists. -/
structure At (k : ℕ) (r : Ref sig .tc) (s : Ref sig' .tc) : Prop where
  left : r.space = .hbm
  right : s.space = .hbm
  left_idx : r.idx.val = k
  right_idx : s.idx.val = k

/-- Two references name the device buffer at the same place, among the first `n`. -/
structure Before (n : ℕ) (r : Ref sig .tc) (s : Ref sig' .tc) : Prop where
  left : r.space = .hbm
  right : s.space = .hbm
  same : s.idx.val = r.idx.val
  lt : r.idx.val < n

/-- The device buffers at the first `n` places hold the same in both programs. -/
def Agree (n : ℕ) (V : Valuation τ sig Val) (W : Valuation τ' sig' Val) : Prop :=
  ∀ (k : ℕ) (r : Ref sig .tc) (s : Ref sig' .tc), At k r s → k < n →
    HEq (V (Proc.devRef .tc r)) (W (Proc.devRef .tc s))

/-- What agreement says of one buffer. -/
theorem Agree.at {n : ℕ} {V : Valuation τ sig Val} {W : Valuation τ' sig' Val} (h : Agree n V W) {r : Ref sig .tc}
    {s : Ref sig' .tc} (b : Before n r s) : HEq (V (Proc.devRef .tc r)) (W (Proc.devRef .tc s)) :=
  h _ r s ⟨b.left, b.right, rfl, b.same⟩ b.lt

/-- A reference is its memory space and its place there. -/
theorem ref_eq {r s : Ref sig .tc} {k : ℕ} (hr : r.space = .hbm) (hs : s.space = .hbm)
    (hrk : r.idx.val = k) (hsk : s.idx.val = k) : r = s := by
  obtain ⟨sp, i, hi⟩ := r
  obtain ⟨sp', j, hj⟩ := s
  cases hr; cases hs
  have : i = j := Fin.ext (hrk.trans hsk.symm)
  subst this; rfl

/-- An operation that writes the buffer at place `n` in both programs, the same there, carries agreement
    one place on. -/
theorem Agree.step {n : ℕ} {V : Valuation τ sig Val} {W : Valuation τ' sig' Val} (h : Agree n V W)
    (op : HloOp τ sig Val) (op' : HloOp τ' sig' Val) (y : Ref sig .tc) (y' : Ref sig' .tc) (hy : At n y y')
    (hw : op.writes = {Proc.devRef .tc y}) (hw' : op'.writes = {Proc.devRef .tc y'})
    (he : HEq (op.result V (Proc.devRef .tc y)) (op'.result W (Proc.devRef .tc y'))) :
    Agree (n + 1) (op.result V) (op'.result W) := by
  intro k r s hrs hk
  by_cases hkn : k = n
  · subst hkn
    obtain rfl := ref_eq hrs.left hy.left hrs.left_idx hy.left_idx
    obtain rfl := ref_eq hrs.right hy.right hrs.right_idx hy.right_idx
    exact he
  · rw [result_of_writes_ne op V y r hw fun e => hkn (by rw [← hrs.left_idx, e, hy.left_idx]),
      result_of_writes_ne op' W y' s hw' fun e => hkn (by rw [← hrs.right_idx, e, hy.right_idx])]
    exact h k r s hrs (by omega)

variable {T Ta Tb : BufTy}

/-- Contents read at the value's type agree where the buffers' contents do. -/
theorem ofBuf_eq {x : TRef sig T} {x' : TRef sig' T} {V : x.ref.ty.Contents Val} {W : x'.ref.ty.Contents Val}
    (h : HEq V W) : x.ofBuf V = x'.ofBuf W :=
  eq_of_heq ((cast_heq _ _).trans (h.trans (cast_heq _ _).symm))

/-- Equal values, put into the two programs' buffers, are the same contents. -/
theorem toBuf_heq (y : TRef sig T) (y' : TRef sig' T) {v w : T.Contents Val} (h : v = w) :
    HEq (y.toBuf v) (y'.toBuf w) :=
  (cast_heq _ _).trans ((heq_of_eq h).trans (cast_heq _ _).symm)

/-- The same contents read at another shape are the same contents. -/
theorem reshape_heq {A A' B B' : BufTy} (hA : A = A') (hB : B = B') {u : A.Contents Val} {w : A'.Contents Val} (h : HEq u w)
    (he : A.elt = B.elt) (hn : A.shape.ShapeCasts B.shape) (he' : A'.elt = B'.elt) (hn' : A'.shape.ShapeCasts B'.shape) :
    HEq (fun i => he ▸ shapeCast B.shape u hn i : B.Contents Val) (fun i => he' ▸ shapeCast B'.shape w hn' i : B'.Contents Val) := by
  subst hA hB; cases h; rfl

/-- Equal functions at equal contents have equal values, across equal types. -/
theorem app_heq {A A' B B' : BufTy} (hA : A = A') (hB : B = B') {f : A.Contents Val → B.Contents Val}
    {f' : A'.Contents Val → B'.Contents Val} (hf : HEq f f') {u : A.Contents Val} {u' : A'.Contents Val} (hu : HEq u u') :
    HEq (f u) (f' u') := by
  subst hA hB; cases hf; cases hu; rfl

/-- The same for functions of two arguments. -/
theorem app₂_heq {A A' B B' C C' : BufTy} (hA : A = A') (hB : B = B') (hC : C = C')
    {f : A.Contents Val → B.Contents Val → C.Contents Val} {f' : A'.Contents Val → B'.Contents Val → C'.Contents Val}
    (hf : HEq f f') {u : A.Contents Val} {u' : A'.Contents Val} (hu : HEq u u')
    {v : B.Contents Val} {v' : B'.Contents Val} (hv : HEq v v') : HEq (f u v) (f' u' v') := by
  subst hA hB hC; cases hf; cases hu; cases hv; rfl

/-- Running `ops` on one side and the lines of `ops'` before `rest` on the other carries agreement from the first
    `n` places to the first `k`. -/
def Walk (n : ℕ) (ops : List (HloOp τ sig Val)) (ops' rest : List (HloOp τ' sig' Val)) (k : ℕ) : Prop :=
  ∀ V W, Agree n V W → ∃ W', Agree k (after ops V) W' ∧ after ops' W = after rest W'

/-- No operations on either side. -/
theorem Walk.nil {n : ℕ} {rest : List (HloOp τ' sig' Val)} :
    Walk n ([] : List (HloOp τ sig Val)) rest rest n := fun _ W h => ⟨W, h, rfl⟩

/-- Two stretches, one after the other. -/
theorem Walk.append {n k l : ℕ} {ops₁ ops₂ : List (HloOp τ sig Val)} {ops' mid rest : List (HloOp τ' sig' Val)}
    (h₁ : Walk n ops₁ ops' mid k) (h₂ : Walk k ops₂ mid rest l) : Walk n (ops₁ ++ ops₂) ops' rest l := by
  intro V W h
  obtain ⟨W₁, a₁, e₁⟩ := h₁ V W h
  obtain ⟨W₂, a₂, e₂⟩ := h₂ _ _ a₁
  refine ⟨W₂, ?_, e₁.trans e₂⟩
  rw [after_append]; exact a₂

section
variable {n k : ℕ} {ops : List (HloOp τ sig Val)} {ops' rest : List (HloOp τ' sig' Val)}

/-- A value of no operand. -/
theorem Walk.nullary {y : TRef sig T} {y' : TRef sig' T} {v : T.Contents Val}
    (h : Walk (n + 1) ops ops' rest k) (hy : At n y.ref y'.ref) :
    Walk n (TRef.nullary y v :: ops) (TRef.nullary y' v :: ops') rest k := fun V W a =>
  h _ _ (a.step _ _ y.ref y'.ref hy rfl rfl (by
    rw [nullary_result, nullary_result]; exact toBuf_heq y y' rfl))

/-- The same function of one operand. -/
theorem Walk.unary {x : TRef sig Ta} {x' : TRef sig' Ta} {y : TRef sig T} {y' : TRef sig' T}
    {f : Ta.Contents Val → T.Contents Val} (h : Walk (n + 1) ops ops' rest k) (hx : Before n x.ref x'.ref) (hy : At n y.ref y'.ref) :
    Walk n (TRef.unary x y f :: ops) (TRef.unary x' y' f :: ops') rest k := fun V W a =>
  h _ _ (a.step _ _ y.ref y'.ref hy rfl rfl (by
    rw [unary_result, unary_result]; exact toBuf_heq y y' (congrArg f (ofBuf_eq (a.at hx)))))

/-- The same function of two operands. -/
theorem Walk.binary {x : TRef sig Ta} {x' : TRef sig' Ta} {z : TRef sig Tb} {z' : TRef sig' Tb}
    {y : TRef sig T} {y' : TRef sig' T} {f : Ta.Contents Val → Tb.Contents Val → T.Contents Val}
    (h : Walk (n + 1) ops ops' rest k) (hx : Before n x.ref x'.ref) (hz : Before n z.ref z'.ref)
    (hy : At n y.ref y'.ref) :
    Walk n (TRef.binary x z y f :: ops) (TRef.binary x' z' y' f :: ops') rest k := fun V W a =>
  h _ _ (a.step _ _ y.ref y'.ref hy rfl rfl (by
    rw [binary_result, binary_result]
    exact toBuf_heq y y' (congrArg₂ f (ofBuf_eq (a.at hx)) (ofBuf_eq (a.at hz)))))

/-- A value of no operand, between references of one type. -/
theorem Walk.nullaryRef {y : Ref sig .tc} {y' : Ref sig' .tc} {v : y.ty.Contents Val} {v' : y'.ty.Contents Val} {p p'}
    (h : Walk (n + 1) ops ops' rest k) (hy : At n y y') (hv : HEq v v') :
    Walk n (StableHlo.nullary y v p :: ops) (StableHlo.nullary y' v' p' :: ops') rest k := fun V W a =>
  h _ _ (a.step _ _ y y' hy rfl rfl (by rw [nullary_result, nullary_result]; exact hv))

/-- The same function of one operand, between references of one type. -/
theorem Walk.unaryRef {x y : Ref sig .tc} {x' y' : Ref sig' .tc}
    {f : x.ty.Contents Val → y.ty.Contents Val} {f' : x'.ty.Contents Val → y'.ty.Contents Val} {p q p' q'}
    (h : Walk (n + 1) ops ops' rest k) (hx : Before n x x') (hy : At n y y')
    (tx : x.ty = x'.ty) (ty : y.ty = y'.ty) (hf : HEq f f') :
    Walk n (StableHlo.unary x y f p q :: ops) (StableHlo.unary x' y' f' p' q' :: ops') rest k := fun V W a =>
  h _ _ (a.step _ _ y y' hy rfl rfl (by
    rw [unary_result, unary_result]
    exact app_heq tx ty hf (a.at hx)))

/-- The same function of two operands, between references of one type. -/
theorem Walk.binaryRef {x z y : Ref sig .tc} {x' z' y' : Ref sig' .tc}
    {f : x.ty.Contents Val → z.ty.Contents Val → y.ty.Contents Val}
    {f' : x'.ty.Contents Val → z'.ty.Contents Val → y'.ty.Contents Val} {p q o p' q' o'}
    (h : Walk (n + 1) ops ops' rest k) (hx : Before n x x') (hz : Before n z z') (hy : At n y y')
    (tx : x.ty = x'.ty) (tz : z.ty = z'.ty) (ty : y.ty = y'.ty) (hf : HEq f f') :
    Walk n (StableHlo.binary x z y f p q o :: ops) (StableHlo.binary x' z' y' f' p' q' o' :: ops') rest k := fun V W a =>
  h _ _ (a.step _ _ y y' hy rfl rfl (by
    rw [binary_result, binary_result]
    exact app₂_heq tx tz ty hf (a.at hx) (a.at hz)))

/-- The same elements at another shape. -/
theorem Walk.reshape {x : TRef sig Ta} {x' : TRef sig' Ta} {y : TRef sig T} {y' : TRef sig' T}
    {he : Ta.elt = T.elt} {hn : Ta.shape.ShapeCasts T.shape} (h : Walk (n + 1) ops ops' rest k)
    (hx : Before n x.ref x'.ref) (hy : At n y.ref y'.ref) :
    Walk n (TRef.reshape x y he hn :: ops) (TRef.reshape x' y' he hn :: ops') rest k := fun V W a =>
  h _ _ (a.step _ _ y.ref y'.ref hy rfl rfl (by
    rw [reshape_result, reshape_result]
    exact reshape_heq (x.ty_eq.trans x'.ty_eq.symm) (y.ty_eq.trans y'.ty_eq.symm) (a.at hx) _ _ _ _))
end

end Cert.Proof.Noise

end
-- ==== Proof.RefOps.lean ====
module

public import proofs.«01_k».proof.Defs
public import proofs.«01_k».proof.Proof.Gen.ReferenceIdeal
public import Idealize.ShloMosaic.Lib.StableHlo.RunHlo

@[expose] public section

noncomputable section

namespace Cert.Proof.Noise

open Idealize.ShloMosaic Idealize.SL.Sem Idealize.ShloMosaic.StableHlo

/-- The reference's operations, in order. -/
def refOps : {ops : List (HloOp Cert.ReferenceIdeal.τ Cert.ReferenceIdeal.sig (Elt Ideal)) //
    ∀ d, IsSeq (Cert.ReferenceIdeal.main (F := Ideal) d) ops} := by
  apply Subtype.mk
  hlo_seq

/-- Dropping one more from a list with one more in front. -/
theorem drop_step {α : Type*} {a : α} {l m : List α} {n : ℕ} (h : l.drop n = m) : (a :: l).drop (n + 1) = m := h

/-- The reference's operations after the noise is drawn. -/
def refTail : {ops : List (HloOp Cert.ReferenceIdeal.τ Cert.ReferenceIdeal.sig (Elt Ideal)) // refOps.1.drop 279 = ops} := by
  apply Subtype.mk
  unfold refOps
  repeat (with_reducible apply drop_step)
  exact List.drop_zero

end Cert.Proof.Noise

end
-- ==== Proof.Noise.lean ====
module

public import proofs.«01_k».proof.Proof.Walk
public import proofs.«01_k».proof.Proof.RefOps
public import proofs.«01_k».proof.Proof.Gen.KernelIdeal
public import proofs.«01_k».proof.Proof.Gen.KernelIdeal.Launch

@[expose] public section

noncomputable section

namespace Cert.Proof.Noise

open Idealize.ShloMosaic Idealize.SL.Sem Idealize.ShloMosaic.StableHlo

set_option maxHeartbeats 4000000 in
/-- The operations that make the random key are the same in both programs. -/
theorem walk0 : Walk 1 (Cert.KernelIdeal.Gen.hostOps0 (F := Ideal)) refOps.1 (refOps.1.drop 12) 13 := by
  unfold Cert.KernelIdeal.Gen.hostOps0 refOps
  repeat (first
    | exact Walk.nil
    | refine Walk.nullaryRef ?_ ⟨rfl, rfl, rfl, rfl⟩ HEq.rfl
    | refine Walk.unaryRef ?_ ⟨rfl, rfl, rfl, by decide⟩ ⟨rfl, rfl, rfl, rfl⟩ rfl rfl HEq.rfl
    | refine Walk.binaryRef ?_ ⟨rfl, rfl, rfl, by decide⟩ ⟨rfl, rfl, rfl, by decide⟩ ⟨rfl, rfl, rfl, rfl⟩ rfl rfl rfl HEq.rfl)

set_option maxHeartbeats 4000000 in
/-- So are those that draw the noise from the key. -/
theorem walk1 : Walk 13 (Cert.KernelIdeal.Gen.hostOps0_1 (F := Ideal)) (refOps.1.drop 12) (refOps.1.drop 279) 280 := by
    unfold Cert.KernelIdeal.Gen.hostOps0_1
    refine Walk.unary ?_ ⟨rfl, rfl, rfl, by decide⟩ ⟨rfl, rfl, rfl, rfl⟩
    iterate 266 (first
      | (with_reducible refine Walk.nullary ?_ ?_; rotate_left; exact ⟨rfl, rfl, rfl, rfl⟩)
      | (with_reducible refine Walk.unary ?_ ?_ ?_; rotate_left; exact ⟨rfl, rfl, rfl, by decide⟩; exact ⟨rfl, rfl, rfl, rfl⟩)
      | (with_reducible refine Walk.binary ?_ ?_ ?_ ?_; rotate_left; exact ⟨rfl, rfl, rfl, by decide⟩; exact ⟨rfl, rfl, rfl, by decide⟩; exact ⟨rfl, rfl, rfl, rfl⟩)
      | (with_reducible refine Walk.reshape ?_ ?_ ?_; rotate_left; exact ⟨rfl, rfl, rfl, by decide⟩; exact ⟨rfl, rfl, rfl, rfl⟩))
    exact Walk.nil

end Cert.Proof.Noise

end
-- ==== Proof.RefValue.lean ====
module

public import proofs.«01_k».proof.Proof.RefOps
public import Idealize.ShloMosaic.Lib.StableHlo.ReadAt

@[expose] public section

noncomputable section

namespace Cert.Proof.RefValue

open Idealize.ShloMosaic Idealize.SL.Sem Idealize.ShloMosaic.StableHlo Cert.ReferenceIdeal Cert.Proof.Noise
open Cert.ReferenceIdeal.Facts₀ Cert.ReferenceIdeal.Facts

/-- The noise, one row a batch, over the heads. -/
def key (N : FVec Ideal S64x1x256 .f32) : FVec Ideal S64x32x256 .f32 :=
  shapeCast S64x32x256
    (broadcastInDim S1x64x32x1x1x256 ![0, 1, 2, 3, 4, 5] bcast_S1x64x1x1x1x256_S1x64x32x1x1x256_0_1_2_3_4_5
      (shapeCast S1x64x1x1x1x256 N shapeCasts_S64x1x256_S1x64x1x1x1x256))
    shapeCasts_S1x64x32x1x1x256_S64x32x256

/-- The places `0, 1, …` along the last axis. -/
def places : IVec S64x32x256 32 := iotaInDim S64x32x256 32 2

/-- The order of a row's elements: at place `i`, which column holds the `i`-th smallest. -/
def order (K : FVec Ideal S64x32x256 .f32) : IVec S64x32x256 32 :=
  (Host.sort2 S64x32x256 2 comparator_f32_i32_d2 K places).2

/-- The order of a row's integers. -/
def orderI (S : IVec S64x32x256 32) : IVec S64x32x256 32 :=
  (Host.sort2 S64x32x256 2 comparator_i32_i32_d2 S places).2

/-- The mask before it is permuted: the first 128 places zero, the others one. -/
def mask0 : FVec Ideal S64x32x256 .f32 :=
  Host.scatter scatter_S64x32x256_S1_S64x32x128_012_n_2_0 (fun _ b => b)
    (broadcastInDim S64x32x256 ![] bcast_S_S64x32x256 (constant (F := Ideal) S_ .f32 0x3F800000#32))
    (broadcastInDim S1 ![] bcast_S_S1 (constantI S_ 32 0#32))
    (broadcastInDim S64x32x128 ![] bcast_S_S64x32x128 (constant (F := Ideal) S_ .f32 0x00000000#32))

/-- An index along the last axis as the gather reads it: one below zero counts from the end. -/
def wrapped (R : IVec S64x32x256 32) : IVec S64x32x256x1 32 :=
  shapeCast S64x32x256x1
    (select (cmpi .slt R (broadcastInDim S64x32x256 ![] bcast_S_S64x32x256 (constantI S_ 32 0#32)))
      (addi R (broadcastInDim S64x32x256 ![] bcast_S_S64x32x256 (constantI S_ 32 256#32))) R)
    shapeCasts_S64x32x256_S64x32x256x1

/-- Which indices lie between zero and the axis's last place. -/
def inside (I : IVec S64x32x256x1 32) : IVec S64x32x256x1 1 :=
  andi (cmpi .sge I (broadcastInDim S64x32x256x1 ![] bcast_S_S64x32x256x1 (constantI S_ 32 0#32)))
    (cmpi .sle I (broadcastInDim S64x32x256x1 ![0, 1, 2, 3] bcast_S1x1x1x1_S64x32x256x1_0_1_2_3
      (broadcastInDim S1x1x1x1 ![3] bcast_S1_S1x1x1x1_3 (constantI S1 32 255#32))))

/-- The conjunction over the index vector, of length one. -/
def within (B : IVec S64x32x256x1 1) : IVec S64x32x256 1 :=
  Host.reduce IntOp.andi B (constantI S_ 1 1#1) reducesTo_S64x32x256x1_S64x32x256_d3 h_S_

/-- `M` read along the last axis at the indices `I`, where `b` holds. -/
def take (M : FVec Ideal S64x32x256 .f32) (I : IVec S64x32x256x1 32) (b : IVec S64x32x256 1) : FVec Ideal S64x32x256 .f32 :=
  select b (Host.gather gather_S64x32x256_S64x32x256x1_S64x32x256_n_2_01_01_2_3_111 M I)
    (broadcastInDim S64x32x256 ![] bcast_S_S64x32x256 (constant (F := Ideal) S_ .f32 0x7FC00000#32))

/-- The mask's condition over the sequence: which elements differ from zero. -/
def masked (M : FVec Ideal S64x32x256 .f32) : IVec S64x32x256 1 :=
  cmpf .une M (broadcastInDim S64x32x256 ![] bcast_S_S64x32x256 (constant (F := Ideal) S_ .f32 0x00000000#32))

/-- `x` with zero where the mask, spread over the features, differs from zero. -/
def filled (M : FVec Ideal S64x32x256 .f32) (x : FVec Ideal S64x32x256x64 .f32) : FVec Ideal S64x32x256x64 .f32 :=
  select
    (cmpf .une
      (shapeCast S64x32x256x64
        (broadcastInDim S64x32x256x1x64 ![0, 1, 2, 3] bcast_S64x32x256x1_S64x32x256x1x64_0_1_2_3
          (broadcastInDim S64x32x256x1 ![0, 1, 2] bcast_S64x32x256_S64x32x256x1_0_1_2 M))
        shapeCasts_S64x32x256x1x64_S64x32x256x64)
      (broadcastInDim S64x32x256x64 ![] bcast_S_S64x32x256x64 (constant (F := Ideal) S_ .f32 0x00000000#32)))
    (broadcastInDim S64x32x256x64 ![] bcast_S_S64x32x256x64 (constant (F := Ideal) S_ .f32 0x00000000#32)) x

variable (W : Valuation τ sig (Elt Ideal))

/-- The first ten operations spread the noise over the heads. -/
theorem a_v10 : after (refTail.1.take 10) W (Proc.devRef .tc main_v10) = key (W (Proc.devRef .tc main_v7)) := by
  after_reads_simp
  rfl

/-- They also make the mask before it is permuted. -/
theorem a_v14 : after (refTail.1.take 10) W (Proc.devRef .tc main_v14) = mask0 := by
  after_reads_simp
  rfl

/-- The next three sort the noise and keep the order. -/
theorem b_v15 : after ((refTail.1.drop 10).take 3) W (Proc.devRef .tc main_v15) = order (W (Proc.devRef .tc main_v10)) := by
  after_reads_simp
  rfl

/-- The next three sort the order and keep where each place went. -/
theorem c_v16 : after ((refTail.1.drop 13).take 3) W (Proc.devRef .tc main_v16) = orderI (W (Proc.devRef .tc main_v15)) := by
  after_reads_simp
  rfl

/-- The next eight wrap negative positions round. -/
theorem d_v5 : after ((refTail.1.drop 16).take 8) W (Proc.devRef .tc main_call3_v5) = wrapped (W (Proc.devRef .tc main_v16)) := by
  after_reads_simp
  rfl

/-- The next eight check that the positions are within the row. -/
theorem e_v11 : after ((refTail.1.drop 24).take 8) W (Proc.devRef .tc main_call3_v11)
    = inside (W (Proc.devRef .tc main_call3_v5)) := by
  after_reads_simp
  rfl

attribute [local irreducible] Host.reduce in
/-- The next two gather the checks of each position. -/
theorem e_v12 : after ((refTail.1.drop 32).take 2) W (Proc.devRef .tc main_call3_v12)
    = within (W (Proc.devRef .tc main_call3_v11)) := by
  after_reads_simp
  rfl

/-- The next four read the mask at the positions. -/
theorem e_v17 : after ((refTail.1.drop 34).take 4) W (Proc.devRef .tc main_v17)
    = take (W (Proc.devRef .tc main_v14)) (W (Proc.devRef .tc main_call3_v5)) (W (Proc.devRef .tc main_call3_v12)) := by
  after_reads_simp
  rfl

/-- The last operations fill the argument with zero where the mask is set. -/
theorem f_v24 : after (refTail.1.drop 38) W (Proc.devRef .tc main_v24)
    = filled (W (Proc.devRef .tc main_v17)) (W (Proc.devRef .tc main_arg0)) := by
  after_reads_simp
  rfl

/-- They turn the mask into truth values. -/
theorem f_v27 : after (refTail.1.drop 38) W (Proc.devRef .tc main_v27) = masked (W (Proc.devRef .tc main_v17)) := by
  after_reads_simp
  rfl

/-- They leave the argument alone. -/
theorem f_arg0 : after (refTail.1.drop 38) W (Proc.devRef .tc main_arg0) = W (Proc.devRef .tc main_arg0) := by
  after_reads_simp

/-- The mask the reference leaves from the noise `N`. -/
def maskOf (N : FVec Ideal S64x1x256 .f32) : FVec Ideal S64x32x256 .f32 :=
  take mask0 (wrapped (orderI (order (key N)))) (within (inside (wrapped (orderI (order (key N))))))

/-- A line run from the end of its first `a` operations. -/
theorem after_take (ops : List (HloOp τ sig (Elt Ideal))) (a b : ℕ) (V : Valuation τ sig (Elt Ideal)) :
    after (ops.take (a + b)) V = after ((ops.drop a).take b) (after (ops.take a) V) := by
  induction a generalizing ops V with
  | zero => rw [Nat.zero_add]; rfl
  | succ a ih =>
    cases ops with
    | nil => rw [List.drop_nil, List.take_nil, List.take_nil, List.take_nil]; rfl
    | cons o l => rw [Nat.add_right_comm]; exact ih l (o.result V)

/-- A list of operations is its first `a` and then the rest. -/
theorem after_drop (ops : List (HloOp τ sig (Elt Ideal))) (a : ℕ) (V : Valuation τ sig (Elt Ideal)) :
    after ops V = after (ops.drop a) (after (ops.take a) V) := by
  induction a generalizing ops V with
  | zero => rfl
  | succ a ih =>
    cases ops with
    | nil => rfl
    | cons o l => exact ih l (o.result V)

/-- The mask before it is permuted is not written again. -/
theorem keep_v14 : after ((refTail.1.drop 10).take 24) W (Proc.devRef .tc main_v14) = W (Proc.devRef .tc main_v14) := by
  after_reads_simp

/-- Nor are the positions. -/
theorem keep_v5 : after ((refTail.1.drop 24).take 10) W (Proc.devRef .tc main_call3_v5)
    = W (Proc.devRef .tc main_call3_v5) := by
  after_reads_simp

/-- Nor is the argument. -/
theorem keep_arg0 : after (refTail.1.take 38) W (Proc.devRef .tc main_arg0) = W (Proc.devRef .tc main_arg0) := by
  after_reads_simp

/-- The positions, from the noise. -/
theorem at_v5 : after (refTail.1.take 24) W (Proc.devRef .tc main_call3_v5)
    = wrapped (orderI (order (key (W (Proc.devRef .tc main_v7))))) := by
  rw [after_take refTail.1 16 8, d_v5, after_take refTail.1 13 3, c_v16, after_take refTail.1 10 3, b_v15, a_v10]

/-- The permuted mask, from the noise. -/
theorem at_v17 : after (refTail.1.take 38) W (Proc.devRef .tc main_v17) = maskOf (W (Proc.devRef .tc main_v7)) := by
  rw [after_take refTail.1 34 4, e_v17]
  have h5 : after (refTail.1.take 34) W (Proc.devRef .tc main_call3_v5)
      = wrapped (orderI (order (key (W (Proc.devRef .tc main_v7))))) := by
    rw [after_take refTail.1 24 10, keep_v5, at_v5]
  have h14 : after (refTail.1.take 34) W (Proc.devRef .tc main_v14) = mask0 := by
    rw [after_take refTail.1 10 24, keep_v14, a_v14]
  have h12 : after (refTail.1.take 34) W (Proc.devRef .tc main_call3_v12)
      = within (inside (wrapped (orderI (order (key (W (Proc.devRef .tc main_v7))))))) := by
    rw [after_take refTail.1 32 2, e_v12, after_take refTail.1 24 8, e_v11, at_v5]
  rw [h5, h14, h12]; rfl

/-- The reference's second result, from the noise. -/
theorem tail_v27 : after refTail.1 W (Proc.devRef .tc main_v27) = masked (maskOf (W (Proc.devRef .tc main_v7))) := by
  rw [after_drop refTail.1 38, f_v27, at_v17]

/-- Its first, from the noise and the argument. -/
theorem tail_v24 : after refTail.1 W (Proc.devRef .tc main_v24)
    = filled (maskOf (W (Proc.devRef .tc main_v7))) (W (Proc.devRef .tc main_arg0)) := by
  rw [after_drop refTail.1 38, f_v24, at_v17, keep_arg0]

/-- Its argument is left as it was. -/
theorem tail_arg0 : after refTail.1 W (Proc.devRef .tc main_arg0) = W (Proc.devRef .tc main_arg0) := by
  rw [after_drop refTail.1 38, f_arg0, keep_arg0]

end Cert.Proof.RefValue

end
-- ==== Proof.Rank.lean ====
module

public import Idealize.ShloMosaic.Lib.PlanTiles.StableSort
public import Mathlib.Order.Fin.Basic
public import Mathlib.Order.Interval.Finset.Fin

@[expose] public section

namespace Cert.Proof.Rank

open Idealize.ShloMosaic Finset

variable {α : Type*} [LinearOrder α] {n : ℕ}

/-- Position `j` comes before position `l` in the stable order by the key `f`: its key is less, or the keys are equal
    and it stands earlier. -/
def Precedes (f : Fin n → α) (j l : Fin n) : Prop := f j < f l ∨ (f j = f l ∧ j < l)

instance (f : Fin n → α) (j l : Fin n) : Decidable (Precedes f j l) := inferInstanceAs (Decidable (_ ∨ _))

/-- The rank of position `l`: how many positions come before it in the stable order by the key `f`. -/
def rank (f : Fin n → α) (l : Fin n) : ℕ := #{j | Precedes f j l}

/-- A rank is less than the number of positions. -/
theorem rank_lt (f : Fin n → α) (l : Fin n) : rank f l < n := by
  have h : rank f l < #(univ : Finset (Fin n)) := card_lt_card (ssubset_univ_iff.mpr fun h => by
    have := (mem_filter.mp (h ▸ mem_univ l : l ∈ _)).2
    simp [Precedes] at this)
  simpa using h

/-- The stable sort by the key `f` puts the positions in the stable order. -/
theorem sorted_precedes (f : Fin n → α) {i j : Fin n} (hij : i < j) :
    Precedes f (sortedFrom (fun a b => decide (f a < f b)) i) (sortedFrom (fun a b => decide (f a < f b)) j) := by
  -- the number of greater keys, a natural number, orders the positions as the keys do, the other way round
  let G : Fin n → ℕ := fun a => #{b | f a < f b}
  have hG : ∀ a b, f a < f b ↔ G b < G a := fun a b => by
    constructor
    · intro h
      refine card_lt_card ⟨fun x hx => ?_, fun hs => ?_⟩
      · simp only [mem_filter, mem_univ, true_and] at hx ⊢
        exact h.trans hx
      · have := hs (mem_filter.mpr ⟨mem_univ b, h⟩)
        simp at this
    · intro h
      by_contra hle
      refine absurd h (not_lt.mpr (card_le_card fun x hx => ?_))
      simp only [mem_filter, mem_univ, true_and] at hx ⊢
      exact (not_lt.mp hle).trans_lt hx
  have hb : (fun a b => decide (f a < f b)) = fun a b => decide (G b < G a) := by
    funext a b; exact decide_eq_decide.mpr (hG a b)
  have hp := PlanTiles.pairwise_stableSort_lex G (· < ·) (List.finRange n) (List.pairwise_lt_finRange n)
  rw [List.pairwise_iff_get] at hp
  rw [hb]
  have h : PlanTiles.Lex G (· < ·) (sortedFrom (fun a b => decide (G b < G a)) i)
      (sortedFrom (fun a b => decide (G b < G a)) j) :=
    hp (i.cast (length_sortPositions n _).symm) (j.cast (length_sortPositions n _).symm) hij
  rcases h with h | ⟨h, h'⟩
  · exact Or.inl ((hG _ _).mpr h)
  · exact Or.inr ⟨le_antisymm (not_lt.mp fun hlt => absurd ((hG _ _).mp hlt) (by omega))
      (not_lt.mp fun hlt => absurd ((hG _ _).mp hlt) (by omega)), h'⟩

/-- The position the stable sort puts at place `k` has rank `k`. -/
theorem rank_sorted (f : Fin n → α) (k : Fin n) :
    rank f (sortedFrom (fun a b => decide (f a < f b)) k) = k := by
  set σ := sortedFrom (fun a b => decide (f a < f b)) with hσ
  have hlt : ∀ i j, Precedes f (σ i) (σ j) ↔ i < j := fun i j => by
    refine ⟨fun h => ?_, fun h => sorted_precedes f h⟩
    rcases lt_trichotomy i j with h' | rfl | h'
    · exact h'
    · simp [Precedes] at h
    · rcases h, sorted_precedes f h' with ⟨h | ⟨h, h₁⟩, h₂ | ⟨h₂, h₃⟩⟩
      · exact absurd h₂ h.asymm
      · exact absurd h₂ h.ne'
      · exact absurd h h₂.ne'
      · exact absurd h₃ h₁.asymm
  have hbij : Function.Bijective σ := ⟨sortedFrom_injective _, sortedFrom_surjective _⟩
  have : #{j | j < k} = #{j | Precedes f j (σ k)} :=
    card_equiv (Equiv.ofBijective σ hbij) fun j => by simp [hlt]
  rw [rank, ← this, filter_gt_eq_Iio, Fin.card_Iio]

/-- Sorting the positions by where the first sort took them from gives back each position's rank. -/
theorem sorted_sorted (f : Fin n → α) (l : Fin n) :
    (sortedFrom (fun a b => decide (sortedFrom (fun a b => decide (f a < f b)) a
      < sortedFrom (fun a b => decide (f a < f b)) b)) l : ℕ) = rank f l := by
  set σ := sortedFrom (fun a b => decide (f a < f b))
  set τ := sortedFrom (fun a b => decide (σ a < σ b)) with hτ
  have hmono : StrictMono (σ ∘ τ) := fun i j hij => by
    rcases sorted_precedes σ hij with h | ⟨h, h'⟩
    · exact h
    · exact absurd (sortedFrom_injective _ h) h'.ne
  have hsurj : Function.Surjective (σ ∘ τ) := (sortedFrom_surjective _).comp (sortedFrom_surjective _)
  have hid : σ ∘ τ = id := congrArg (fun e : Fin n ≃o Fin n => (e : Fin n → Fin n))
    (Subsingleton.elim (hmono.orderIsoOfSurjective _ hsurj) (OrderIso.refl (Fin n)))
  have := rank_sorted f (τ l)
  rw [show sortedFrom (fun a b => decide (f a < f b)) (τ l) = l from congrFun hid l] at this
  exact this.symm

end Cert.Proof.Rank
-- ==== Proof.RefPoint.lean ====
module

public import proofs.«01_k».proof.Proof.RefValue
public import proofs.«01_k».proof.Proof.Rank
public import Idealize.ShloMosaic.Lib.Pointwise
public import Idealize.ShloMosaic.Lib.WordCmp
public import Idealize.ShloMosaic.Lib.Routing.OpsSet

@[expose] public section

noncomputable section

namespace Cert.Proof.RefValue

open Idealize.ShloMosaic Idealize.SL.Sem Cert.ReferenceIdeal Cert.Proof.Rank
open Cert.ReferenceIdeal.Facts₀ Cert.ReferenceIdeal.Facts

/-- Batch `b`'s row of the noise. -/
def row (N : FVec Ideal S64x1x256 .f32) (b : Fin 64) : Fin 256 → EReal := fun l => N (ix3 b 0 l)

/-- The sort's keys are each batch's noise, the same for every head. -/
theorem key_apply (N : FVec Ideal S64x1x256 .f32) (b : Fin 64) (h : Fin 32) (l : Fin 256) : key N (ix3 b h l) = row N b l := by
  unfold key row
  pointwise

/-- The place `k` of the line through `(b, h, l)` along the last axis. -/
theorem along (b : Fin 64) (h : Fin 32) (l k : Fin 256) : (ix3 b h l : S64x32x256.Idx).along 2 k = ix3 b h k := by
  funext a
  fin_cases a <;> rfl

/-- Each place holds its number. -/
theorem places_apply (b : Fin 64) (h : Fin 32) (l : Fin 256) : places (ix3 b h l) = BitVec.ofNat 32 l := by
  unfold places
  pointwise

/-- The comparison of the noise is the order of the extended reals. -/
theorem comparator_apply (x y : EReal) (u v : BitVec 32) :
    (comparator_f32_i32_d2 (F := Ideal) (x, u) (y, v) == 1#1) = decide (x < y) := by
  have hc : ∀ z c : EReal, Scalar.select (Ideal.cmp .une z z) c (Scalar.select (Ideal.cmp .oeq z 0) 0 z) = z := fun z c => by
    by_cases h : z = 0 <;> simp [Ideal.cmp, Scalar.select, h]
  unfold comparator_f32_i32_d2
  simp only [Ideal.cmpf_def, Ideal.cmpfTotal_def, show (FloatOps.ofBits .f32 0x00000000#32 : Ideal .f32) = (0 : EReal) from Ideal.ofBits_zero_f32]
  rw [hc, hc, beq_eq_decide]
  exact decide_eq_decide.mpr (WordCmp.ofBool_decide_eq_one_iff _)

/-- The comparison of the places is the order of the integers. -/
theorem comparatorI_apply (x y u v : BitVec 32) :
    (comparator_i32_i32_d2 (x, u) (y, v) == 1#1) = decide (x.toInt < y.toInt) := by
  unfold comparator_i32_i32_d2
  simp only [WordCmp.cmpi_slt_eq]
  rw [beq_eq_decide]
  exact decide_eq_decide.mpr (WordCmp.ofBool_decide_eq_one_iff _)

/-- The mask before it is permuted is zero at the first 128 places and one at the others. -/
theorem mask0_apply (b : Fin 64) (h : Fin 32) (l : Fin 256) : mask0 (ix3 b h l) = if l.val < 128 then 0 else 1 := by
  unfold mask0
  set idx : IVec S1 32 := broadcastInDim S1 ![] bcast_S_S1 (constantI S_ 32 0#32)
  set d := scatter_S64x32x256_S1_S64x32x128_012_n_2_0
  have hs : ∀ k a, d.start k idx a = 0 := fun k a => by
    unfold ScatterDims.start
    split <;> rfl
  have hw : ∀ k (a : Fin 3), d.window k a = (k a).val := fun k a => by
    fin_cases a <;> rfl
  split
  · next hl =>
    refine Routing.scatter_set_hit d _ idx _ _ _ (fun k hk => ?_) (ix3 b h ⟨l, hl⟩) ?_
    · pointwise
    · rw [Routing.resultIdx?_eq_some]
      intro a
      rw [hs, hw]
      fin_cases a <;> simp
  · next hl =>
    rw [Routing.scatter_set_miss]
    · pointwise
    · intro k hk
      rw [Routing.resultIdx?_eq_some] at hk
      have := hk 2
      rw [hs, hw] at this
      have hk2 : (k 2).val < 128 := (k 2).isLt
      have hl2 : 0 + ((k 2).val : Int) = l.val := this
      omega

/-- The gather reads the place the index names, in the same batch and head. -/
theorem gather_apply (M : FVec Ideal S64x32x256 .f32) (I : IVec S64x32x256x1 32) (b : Fin 64) (h : Fin 32) (l r : Fin 256)
    (hI : I (ix4 b h l 0) = BitVec.ofNat 32 r) :
    Host.gather gather_S64x32x256_S64x32x256x1_S64x32x256_n_2_01_01_2_3_111 M I (ix3 b h l) = M (ix3 b h r) := by
  unfold Host.gather
  congr 1
  funext a
  apply Fin.ext
  fin_cases a
  · show 0 + b.val + 0 = b.val
    omega
  · show 0 + h.val + 0 = h.val
    omega
  · show min (I _).toInt.toNat 255 + 0 + 0 = r.val
    rw [show I _ = BitVec.ofNat 32 r from (congrArg I (by funext a; fin_cases a <;> rfl)).trans hI,
      WordCmp.toInt_ofNat_of_lt (by omega)]
    omega

/-- A conjunction of ones, from one, is one. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  induction (List.finRange s.numel).filter _ with
  | nil => rfl
  | cons n L ih => rw [List.foldl_cons, hx]; exact ih

/-- Where every index lies inside, so does each vector of indices. -/
theorem within_one (B : IVec S64x32x256x1 1) (hB : ∀ i, B i = 1#1) : within B = fun _ => 1#1 :=
  funext fun j => reduce_andi_one B _ _ _ hB (fun _ => rfl) j

/-- A sort that carries the places leaves at each place the one the element there came from. -/
theorem sort2_along {β : Type} (cmp : β × BitVec 32 → β × BitVec 32 → BitVec 1) (x : S64x32x256.Idx → β) (b : Fin 64) (h : Fin 32) (l : Fin 256)
    (before : Fin 256 → Fin 256 → Bool)
    (hb : ∀ i j, (cmp (x (ix3 b h i), BitVec.ofNat 32 i) (x (ix3 b h j), BitVec.ofNat 32 j) == 1#1) = before i j) :
    (Host.sort2 S64x32x256 2 cmp x places).2 (ix3 b h l) = BitVec.ofNat 32 (sortedFrom before l) := by
  have e : before = fun i j => cmp (x ((ix3 b h l : S64x32x256.Idx).along 2 i), places ((ix3 b h l : S64x32x256.Idx).along 2 i))
      (x ((ix3 b h l : S64x32x256.Idx).along 2 j), places ((ix3 b h l : S64x32x256.Idx).along 2 j)) == 1#1 := by
    funext i j
    rw [along, along, places_apply, places_apply, hb]
  rw [e]
  unfold Host.sort2
  rw [dif_pos (by decide : 2 < S64x32x256.rank)]
  exact (congrArg places (along b h l _)).trans (places_apply b h _)

/-- The first sort leaves at each place the column the stable sort of the noise takes there. -/
theorem order_apply (N : FVec Ideal S64x1x256 .f32) (b : Fin 64) (h : Fin 32) (l : Fin 256) :
    order (key N) (ix3 b h l) = BitVec.ofNat 32 (sortedFrom (fun i j => decide (row N b i < row N b j)) l) := by
  unfold order
  exact sort2_along _ _ b h l _ fun i j => by rw [key_apply, key_apply, comparator_apply]

/-- The second sort leaves at each column its rank in the noise. -/
theorem ranks_apply (N : FVec Ideal S64x1x256 .f32) (b : Fin 64) (h : Fin 32) (l : Fin 256) :
    orderI (order (key N)) (ix3 b h l) = BitVec.ofNat 32 (rank (row N b) l) := by
  rw [← sorted_sorted]
  unfold orderI
  refine sort2_along _ _ b h l _ fun i j => ?_
  rw [order_apply, order_apply, comparatorI_apply, WordCmp.toInt_ofNat_of_lt (by omega), WordCmp.toInt_ofNat_of_lt (by omega)]
  exact decide_eq_decide.mpr Int.ofNat_lt

/-- An index that is not below zero is read as it is. -/
theorem wrapped_apply (R : IVec S64x32x256 32) (b : Fin 64) (h : Fin 32) (l : Fin 256) (r : Fin 256)
    (hR : R (ix3 b h l) = BitVec.ofNat 32 r) : wrapped R (ix4 b h l 0) = BitVec.ofNat 32 r := by
  unfold wrapped
  pointwise
  rw [hR, WordCmp.cmpi_slt_eq, WordCmp.toInt_ofNat_of_lt (by omega)]
  have : ¬ (r.val : Int) < 0 := by omega
  simp [Scalar.select, this]

/-- A number below 256 lies inside. -/
theorem inside_apply (I : IVec S64x32x256x1 32) (i : S64x32x256x1.Idx) (r : Fin 256) (hI : I i = BitVec.ofNat 32 r) :
    inside I i = 1#1 := by
  unfold inside
  pointwise
  have hr : (BitVec.ofNat 32 r.val).toInt = r.val := WordCmp.toInt_ofNat_of_lt (by omega)
  have hr' : (r.val : Int) ≤ 255 := by omega
  rw [hI, WordCmp.cmpi_sge_eq, WordCmp.cmpi_sle_eq, hr, WordCmp.andi_ofBool, WordCmp.ofBool_eq_one_iff,
    Bool.and_eq_true, decide_eq_true_iff, decide_eq_true_iff]
  exact ⟨Int.natCast_nonneg _, hr'⟩

/-- The mask is zero at the columns of rank below 128 and one at the others. -/
theorem maskOf_apply (N : FVec Ideal S64x1x256 .f32) (b : Fin 64) (h : Fin 32) (l : Fin 256) :
    maskOf N (ix3 b h l) = if rank (row N b) l < 128 then 0 else 1 := by
  have hw : ∀ b h l, wrapped (orderI (order (key N))) (ix4 b h l 0) = BitVec.ofNat 32 (rank (row N b) l) := fun b h l =>
    wrapped_apply _ b h l ⟨_, rank_lt _ _⟩ (ranks_apply N b h l)
  have hi : ∀ i, inside (wrapped (orderI (order (key N)))) i = 1#1 := fun i => by
    obtain ⟨b, h, l, rfl⟩ : ∃ (b : Fin 64) (h : Fin 32) (l : Fin 256), i = ix4 b h l 0 :=
      ⟨i 0, i 1, i 2, by funext a; fin_cases a <;> first | rfl | exact Subsingleton.elim (α := Fin 1) _ _⟩
    exact inside_apply _ _ ⟨_, rank_lt _ _⟩ (hw b h l)
  unfold maskOf take
  rw [within_one _ hi]
  rw [ValueIdx.select_apply, gather_apply _ _ b h l ⟨_, rank_lt _ _⟩ (hw b h l), mask0_apply]
  exact if_pos rfl

/-- The condition over the sequence, one element at a time. -/
theorem masked_at (M : FVec Ideal S64x32x256 .f32) (b : Fin 64) (h : Fin 32) (l : Fin 256) :
    masked M (ix3 b h l) = BitVec.ofBool (decide (M (ix3 b h l) ≠ 0)) := by
  unfold masked
  pointwise

/-- The filled sequence, one element at a time. -/
theorem filled_at (M : FVec Ideal S64x32x256 .f32) (x : FVec Ideal S64x32x256x64 .f32) (b : Fin 64) (h : Fin 32) (l : Fin 256)
    (d : Fin 64) : filled M x (ix4 b h l d) = if M (ix3 b h l) ≠ 0 then 0 else x (ix4 b h l d) := by
  unfold filled
  pointwise

/-- The mask's condition holds at the columns of rank 128 or more. -/
theorem masked_apply (N : FVec Ideal S64x1x256 .f32) (b : Fin 64) (h : Fin 32) (l : Fin 256) :
    masked (maskOf N) (ix3 b h l) = BitVec.ofBool (decide (128 ≤ rank (row N b) l)) := by
  rw [masked_at, maskOf_apply]
  by_cases hr : rank (row N b) l < 128
  · simp [hr, Nat.not_le.mpr hr]
  · simp [hr, Nat.not_lt.mp hr]

/-- The sequence keeps its elements at the columns of rank below 128 and is zero at the others. -/
theorem filled_apply (N : FVec Ideal S64x1x256 .f32) (x : FVec Ideal S64x32x256x64 .f32) (b : Fin 64) (h : Fin 32) (l : Fin 256)
    (d : Fin 64) : filled (maskOf N) x (ix4 b h l d) = if rank (row N b) l < 128 then x (ix4 b h l d) else 0 := by
  rw [filled_at, maskOf_apply]
  by_cases hr : rank (row N b) l < 128 <;> simp [hr]

end Cert.Proof.RefValue
-- ==== Proof.RefRun.lean ====
module

public import proofs.«01_k».proof.Defs
public import proofs.«01_k».proof.Proof.RefValue
public import Idealize.ShloMosaic.Adequacy
public import Idealize.ShloMosaic.Init
public import Idealize.ShloMosaic.Lib.Claim

@[expose] public section

noncomputable section

namespace Cert.Proof.RefRun

open Idealize.ShloMosaic Idealize.SL.Sem Idealize.ShloMosaic.StableHlo Cert.ReferenceIdeal Cert.Proof.Noise

variable (m : (ℓ : Loc nD τ sig) → Buf (Elt Ideal) ℓ) (g : Dev nD → PrngReg)

/-- Every buffer ends at what the reference's operations, in order, leave in it. -/
theorem run : θ_run (defs (F := Ideal)) (onTc (τ := τ) (main (F := Ideal))) ⟨m, fun _ => 0, g⟩ fun r =>
    ∀ (d : Dev nD) (b : Ref sig .tc), r.2.mem ((d.tc : Thread nD τ).loc b)
      = after refOps.1 (launchContents m d) (Proc.devRef .tc b) := by
  refine run_hlo defs main refOps.2 (by decide) (by decide) ?_ ?_ m g
  · unfold refOps
    dsimp only
    simp
  · unfold refOps
    intro _ h
    repeat (cases h with | head => rfl | tail _ h => ?_)
    exact nomatch h

/-- The reference ends with its argument unchanged and every counter at zero. -/
theorem frame : Cert.quiescent_ReferenceIdeal := by
  intro m g _
  refine θ_run_and ?_ (θ_run_mono (run m g) fun r _ => sem_eq_zero_of_no_sems (by decide) r.2)
  hlo_run

end Cert.Proof.RefRun

end
-- ==== Proof.KernelBlock.lean ====
module

public import proofs.«01_k».proof.Proof.Gen.KernelIdeal.Skeleton
public import proofs.«01_k».proof.Proof.Rank
public import Idealize.ShloMosaic.Lib.Pointwise
public import Idealize.ShloMosaic.Lib.WordCmp

@[expose] public section

noncomputable section

namespace Cert.Proof.KernelBlock

open Idealize.ShloMosaic Cert.KernelIdeal Cert.KernelIdeal.Gen Cert.Proof.Rank

/-- A truth value widened to a word and converted to a float is one or zero. -/
theorem flag (p : Bool) : FloatOps.sitofp (F := Ideal) .f32 (BitVec.setWidth 32 (BitVec.ofBool p)) = (if p then 1 else 0 : EReal) := by
  show (((BitVec.setWidth 32 (BitVec.ofBool p)).toInt : ℝ) : EReal) = _
  cases p <;> simp

/-- The kernel's "128" as a float. -/
theorem half : Ideal.ofBits .f32 0x43000000#32 = ((128 : ℕ) : EReal) := by
  simp [Ideal.ofBits, Ideal.ieee, -EReal.coe_mul]
  norm_num
  rfl

/-- The kernel's sum of flags over the columns is the rank. -/
theorem sum_flags (f : Fin 256 → EReal) (l : Fin 256) :
    ∑ x : Fin 256, FloatOps.sitofp (F := Ideal) .f32 (BitVec.setWidth 32
      (IntOp.ori (BitVec.ofBool (decide (f x < f l))) (IntOp.andi (BitVec.ofBool (decide (f x = f l)))
        (IntOp.cmpi .slt (BitVec.ofNat 32 x) (BitVec.ofNat 32 l))))) = ((rank f l : ℕ) : EReal) := by
  rw [rank, ← Finset.sum_boole]
  refine Finset.sum_congr rfl fun x _ => ?_
  have hx : ∀ y : Fin 256, (BitVec.ofNat 32 y.val).toInt = y.val := fun y => WordCmp.toInt_ofNat_of_lt (by omega)
  rw [WordCmp.cmpi_slt_eq, hx, hx, WordCmp.andi_ofBool, WordCmp.ori_ofBool, flag]
  refine if_congr ?_ rfl rfl
  simp [Precedes]

variable (v0 : Vec Ideal S1x1x256 .f32) (v2 : Vec Ideal S1x256x1 .f32) (f : Fin 256 → EReal)
  (h0 : ∀ l, v0 (ix3 0 0 l) = f l) (h2 : ∀ l, v2 (ix3 0 l 0) = f l)

include h0 h2

/-- The first block the kernel stores: `x` at the columns of rank below 128, zero at the others. -/
theorem pay5 (x : Vec Ideal S1x32x256x64 .f32) (h : Fin 32) (l : Fin 256) (d : Fin 64) :
    k0_pay5 v0 v2 x (ix4 0 h l d) = if rank f l < 128 then x (ix4 0 h l d) else 0 := by
  unfold k0_pay5 k0_pay4 k0_pay2 k0_pay3
  pointwise
  simp only [h0, h2]
  rw [sum_flags, half]
  exact if_congr Nat.cast_lt rfl rfl

/-- The second: one at the columns of rank 128 or more, zero at the others. -/
theorem pay1 (h : Fin 32) (l : Fin 256) :
    k0_pay1 (F := Ideal) (k0_pay6 v0 v2) (ix3 0 h l) = if 128 ≤ rank f l then 1 else 0 := by
  unfold k0_pay1 k0_pay6 k0_pay4 k0_pay2 k0_pay3
  pointwise
  simp only [h0, h2, eq_comm (a := f l)]
  rw [sum_flags, half, flag]
  exact if_congr (by rw [decide_eq_true_iff, Nat.cast_le]) rfl rfl

end Cert.Proof.KernelBlock
-- ==== Proof.KernelRun.lean ====
module

public import proofs.«01_k».proof.Proof.Gen.KernelIdeal.Frame
public import proofs.«01_k».proof.Proof.KernelBlock
public import Idealize.ShloMosaic.Lib.Pipeline.ValueKit
public import Idealize.ShloMosaic.Lib.StableHlo.ReadAt

@[expose] public section

noncomputable section

namespace Cert.Proof.KernelRun

open Idealize.ShloMosaic Idealize.SL.Sem Idealize.ShloMosaic.StableHlo Cert.KernelIdeal Cert.KernelIdeal.Gen Cert.Proof.Rank

/-- Batch `b`'s row of the noise. -/
def row (N : FVec Ideal S64x1x256 .f32) (b : Fin 64) : Fin 256 → EReal := fun l => N (ix3 b 0 l)

/-- The sequence kept at the columns of rank below 128, zero at the others. -/
def kept (N : FVec Ideal S64x1x256 .f32) (x : FVec Ideal S64x32x256x64 .f32) : FVec Ideal S64x32x256x64 .f32 := fun i =>
  if rank (row N (i 0)) (i 2) < 128 then x i else 0

/-- One at the columns of rank 128 or more, zero at the others. -/
def flags (N : FVec Ideal S64x1x256 .f32) : FVec Ideal S64x32x256 .f32 := fun i =>
  if 128 ≤ rank (row N (i 0)) (i 2) then 1 else 0

/-- `kept`, one element at a time. -/
theorem kept_apply (N : FVec Ideal S64x1x256 .f32) (x : FVec Ideal S64x32x256x64 .f32) (b : Fin 64) (h : Fin 32) (l : Fin 256) (d : Fin 64) :
    kept N x (ix4 b h l d) = if rank (row N b) l < 128 then x (ix4 b h l d) else 0 := rfl

/-- `flags`, one element at a time. -/
theorem flags_apply (N : FVec Ideal S64x1x256 .f32) (b : Fin 64) (h : Fin 32) (l : Fin 256) :
    flags N (ix3 b h l) = if 128 ≤ rank (row N b) l then 1 else 0 := rfl

variable (m : (ℓ : Loc nD τ sig) → Buf (Elt Ideal) ℓ) (c : Dev nD)

/-- The operations just before the region lay the noise out as a column. -/
theorem col (W : Valuation τ sig (Elt Ideal)) : after hostOps0_2 W (Proc.devRef .tc main_v8)
    = shapeCast S64x256x1 (W (Proc.devRef .tc main_v7)) shapeCasts_S64x1x256_S64x256x1 := by
  after_reads_simp
  rfl

/-- They leave the noise itself alone. -/
theorem keeps_v7 (W : Valuation τ sig (Elt Ideal)) : after hostOps0_2 W (Proc.devRef .tc main_v7)
    = W (Proc.devRef .tc main_v7) := by
  after_reads_simp

/-- And the argument. -/
theorem keeps_arg0 (W : Valuation τ sig (Elt Ideal)) : after hostOps0_2 W (Proc.devRef .tc main_arg0)
    = W (Proc.devRef .tc main_arg0) := by
  after_reads_simp

/-- What the region finds in an array, with the operations that make the noise set apart. -/
theorem V_eq (b : Ref sig .tc) : V m c b = after hostOps0_2 (after (hostOps0 ++ hostOps0_1) fun b => m (c, b)) (Proc.devRef .tc b) := by
  unfold V V0
  rw [List.flatten_cons, List.flatten_cons, List.flatten_cons, List.flatten_nil, List.append_nil, ← List.append_assoc, after_append]

/-- The column holds, batch by batch, the row of the noise. -/
theorem v8_apply (b : Fin 64) (l : Fin 256) : V m c main_v8 (ix3 b l 0) = row (V m c main_v7) b l := by
  rw [V_eq, V_eq, col, keeps_v7]
  generalize after (hostOps0 ++ hostOps0_1) (fun b => m (c, b)) (Proc.devRef .tc main_v7) = N
  unfold row
  pointwise

/-- Each window's block at a point is its array's batch of that number. -/
theorem index0 : ∀ t : Fin cfg0.N, win0_0.index t = ![t.val, 0, 0] := (by decide +kernel : ∀ t : Fin grid0.N, _)
@[inherit_doc index0]
theorem index1 : ∀ t : Fin cfg0.N, win0_1.index t = ![t.val, 0, 0] := (by decide +kernel : ∀ t : Fin grid0.N, _)
@[inherit_doc index0]
theorem index2 : ∀ t : Fin cfg0.N, win0_2.index t = ![t.val, 0, 0, 0] := (by decide +kernel : ∀ t : Fin grid0.N, _)
@[inherit_doc index0]
theorem index3 : ∀ t : Fin cfg0.N, win0_3.index t = ![t.val, 0, 0, 0] := (by decide +kernel : ∀ t : Fin grid0.N, _)
@[inherit_doc index0]
theorem index4 : ∀ t : Fin cfg0.N, win0_4.index t = ![t.val, 0, 0] := (by decide +kernel : ∀ t : Fin grid0.N, _)

/-- The batch at a point of the grid. -/
def batch (t : Fin cfg0.N) : Fin 64 := ⟨t.val, t.isLt.trans_eq (by decide +kernel)⟩

/-- Where the first window's block lies in its array. -/
theorem place0 (t : Fin cfg0.N) (l : Fin 256) : ((cfg0.win 0).blk t).view.emb (ix3 0 0 l) = ix3 (batch t) 0 l := by
  blk_simp
  blk_ext [index0, batch]

/-- Where the second window's block lies in its array. -/
theorem place1 (t : Fin cfg0.N) (l : Fin 256) : ((cfg0.win 1).blk t).view.emb (ix3 0 l 0) = ix3 (batch t) l 0 := by
  blk_simp
  blk_ext [index1, batch]

/-- Where the third window's block lies in its array. -/
theorem place2 (t : Fin cfg0.N) (h : Fin 32) (l : Fin 256) (d : Fin 64) :
    ((cfg0.win 2).blk t).view.emb (ix4 0 h l d) = ix4 (batch t) h l d := by
  blk_simp
  blk_ext [index2, batch]

/-- The first window's block is the batch's row of the noise, laid along the last axis. -/
theorem block0 (t : Fin cfg0.N) (l : Fin 256) : iblk m c 0 t (ix3 0 0 l) = row (V m c main_v7) (batch t) l := by
  have h : ∀ A : FVec Ideal S64x1x256 .f32, ((cfg0.win 0).blk t).view.read (Elt Ideal) A (ix3 0 0 l) = row A (batch t) l :=
    fun A => by
      unfold row
      rw [← place0]
      rfl
  unfold iblk
  exact h _

/-- The second window's block is the same row, laid along the axis before. -/
theorem block1 (t : Fin cfg0.N) (l : Fin 256) : iblk m c 1 t (ix3 0 l 0) = row (V m c main_v7) (batch t) l := by
  have h : ∀ A : FVec Ideal S64x256x1 .f32, ((cfg0.win 1).blk t).view.read (Elt Ideal) A (ix3 0 l 0) = A (ix3 (batch t) l 0) :=
    fun A => by
      rw [← place1]
      rfl
  rw [← v8_apply]
  unfold iblk
  exact h _

/-- The third window's block is the batch's part of the sequence. -/
theorem block2 (t : Fin cfg0.N) (h : Fin 32) (l : Fin 256) (d : Fin 64) :
    iblk m c 2 t (ix4 0 h l d) = V m c main_arg0 (ix4 (batch t) h l d) := by
  have h : ∀ A : FVec Ideal S64x32x256x64 .f32,
      ((cfg0.win 2).blk t).view.read (Elt Ideal) A (ix4 0 h l d) = A (ix4 (batch t) h l d) :=
    fun A => by
      rw [← place2]
      rfl
  unfold iblk
  exact h _

/-- The first result array after the run. -/
theorem array3 : (dats m 0 c).arrAt 3 (cfgs 0).N = kept (V m c main_v7) (V m c main_arg0) := by
  refine (dats m 0 c).arrAt_eq_of_covers 3 _ (by decide +kernel) fun t hf y => ?_
  blk_simp
  rw [after0_3]
  frame_out
  obtain ⟨h, l, d, rfl⟩ : ∃ (h : Fin 32) (l : Fin 256) (d : Fin 64), y = ix4 0 h l d :=
    ⟨y 1, y 2, y 3, by funext a; fin_cases a <;> first | rfl | exact Subsingleton.elim (α := Fin 1) _ _⟩
  refine (KernelBlock.pay5 _ _ _ (block0 m c t) (block1 m c t) _ h l d).trans ?_
  rw [block2]
  have e : ((View.whole main_v9_0).slice (win0_3.rect t)).emb (ix4 0 h l d) = ix4 (batch t) h l d := by
    blk_ext [index3, batch]
  rw [e, kept_apply]

/-- The second result array after the run. -/
theorem array4 : (dats m 0 c).arrAt 4 (cfgs 0).N = flags (V m c main_v7) := by
  refine (dats m 0 c).arrAt_eq_of_covers 4 _ (by decide +kernel) fun t hf y => ?_
  blk_simp
  rw [after0_4]
  frame_out
  obtain ⟨h, l, rfl⟩ : ∃ (h : Fin 32) (l : Fin 256), y = ix3 0 h l :=
    ⟨y 1, y 2, by funext a; fin_cases a <;> first | rfl | exact Subsingleton.elim (α := Fin 1) _ _⟩
  refine (KernelBlock.pay1 _ _ _ (block0 m c t) (block1 m c t) h l).trans ?_
  have e : ((View.whole main_v9_1).slice (win0_4.rect t)).emb (ix3 0 h l) = ix3 (batch t) h l := by
    blk_ext [index4, batch]
  rw [e, flags_apply]

end Cert.Proof.KernelRun
-- ==== Proof.KernelResult.lean ====
module

public import proofs.«01_k».proof.Proof.KernelRun
public import Idealize.ShloMosaic.Lib.Claim

@[expose] public section

noncomputable section

namespace Cert.Proof.KernelRun

open Idealize.ShloMosaic Idealize.SL.Sem Idealize.ShloMosaic.StableHlo Cert.KernelIdeal Cert.KernelIdeal.Gen Cert.Proof.Rank

/-- Where an array of numbers differs from zero. -/
def nonzero (f : FVec Ideal S64x32x256 .f32) : IVec S64x32x256 1 :=
  cmpf .une f (broadcastInDim S64x32x256 ![] bcast_S_S64x32x256 (constant (F := Ideal) S_ .f32 0x00000000#32))

/-- The kernel's mask is set at the columns of rank 128 or more. -/
theorem nonzero_flags (N : FVec Ideal S64x1x256 .f32) (b : Fin 64) (h : Fin 32) (l : Fin 256) :
    nonzero (flags N) (ix3 b h l) = BitVec.ofBool (decide (128 ≤ rank (row N b) l)) := by
  have e : ∀ f : FVec Ideal S64x32x256 .f32, nonzero f (ix3 b h l) = BitVec.ofBool (decide (f (ix3 b h l) ≠ 0)) := fun f => by
    unfold nonzero
    pointwise
  rw [e, flags_apply]
  by_cases hr : 128 ≤ rank (row N b) l
  · rw [if_pos hr]; simp [hr]
  · rw [if_neg hr]; simp [hr]

/-- The operations after the region compare the second result array with zero. -/
theorem tail_v12 (W : Valuation τ sig (Elt Ideal)) : after hostOps1 W (Proc.devRef .tc main_v12)
    = nonzero (W (Proc.devRef .tc main_v9_1)) := by
  after_reads_simp
  rfl

variable (m : (ℓ : Loc nD τ sig) → Buf (Elt Ideal) ℓ)

/-- What the kernel's run leaves: the two results, from the noise and the argument at the region's entry, and the
    argument unchanged. -/
theorem run (g : Dev nD → PrngReg) :
    θ_run (defs (F := Ideal)) (onTc (τ := τ) (main (F := Ideal))) ⟨m, fun _ => 0, g⟩ fun r => ∀ c : Dev nD,
      r.2.mem ((c.tc : Thread nD τ).loc main_v9_0) = kept (V m c main_v7) (m ((c.tc : Thread nD τ).loc main_arg0))
      ∧ r.2.mem ((c.tc : Thread nD τ).loc main_v12) = nonzero (flags (V m c main_v7))
      ∧ r.2.mem ((c.tc : Thread nD τ).loc main_arg0) = m ((c.tc : Thread nD τ).loc main_arg0) := by
  refine θ_run_mono (θ_run_and (Gen.unchanged m g) (Gen.run_main m g)) ?_
  rintro r ⟨hu, hr⟩ c
  refine ⟨?_, ?_, hu c⟩
  · refine (hr.out_eq c (3 : Fin 5)).trans ?_
    rw [array3, V_main_arg0]
  · refine (hr.rest_eq c main_v12 (by decide +kernel)).trans ?_
    unfold Pipeline.afterTail₀
    rw [List.flatten_cons, List.flatten_nil, List.append_nil, tail_v12]
    refine congrArg nonzero ?_
    exact (Pipeline.withArrays_arr (cfgs 0).spec (by decide +kernel) c _ _ (4 : Fin 5)).trans (array4 m c)

end Cert.Proof.KernelRun

end
-- ==== Proof.Algebraic.lean ====
module

public import proofs.«01_k».proof.Proof.Noise
public import proofs.«01_k».proof.Proof.RefPoint
public import proofs.«01_k».proof.Proof.RefRun
public import proofs.«01_k».proof.Proof.KernelResult

@[expose] public section

noncomputable section

namespace Cert.Proof.Algebraic

open Idealize.ShloMosaic Idealize.SL.Sem Idealize.ShloMosaic.StableHlo Cert.Proof.Noise Cert.Proof.Rank

/-- The two programs start with the same first buffer, the argument. -/
theorem agree_launch (V : Valuation Cert.KernelIdeal.τ Cert.KernelIdeal.sig (Elt Ideal))
    (W : Valuation Cert.ReferenceIdeal.τ Cert.ReferenceIdeal.sig (Elt Ideal))
    (h : HEq (V (Proc.devRef .tc Cert.KernelIdeal.main_arg0)) (W (Proc.devRef .tc Cert.ReferenceIdeal.main_arg0))) :
    Agree 1 V W := by
  intro k r s hrs hk
  obtain rfl : k = 0 := by omega
  obtain rfl := ref_eq (s := Cert.KernelIdeal.main_arg0) hrs.left rfl hrs.left_idx rfl
  obtain rfl := ref_eq (s := Cert.ReferenceIdeal.main_arg0) hrs.right rfl hrs.right_idx rfl
  exact h

/-- The reference's two results, from the noise and the argument the kernel's own operations before the region leave. -/
theorem reference (V : Valuation Cert.KernelIdeal.τ Cert.KernelIdeal.sig (Elt Ideal))
    (W : Valuation Cert.ReferenceIdeal.τ Cert.ReferenceIdeal.sig (Elt Ideal)) (h : Agree 1 V W)
    (N : FVec Ideal Cert.KernelIdeal.S64x1x256 .f32) (x : FVec Ideal Cert.KernelIdeal.S64x32x256x64 .f32)
    (hN : after (Cert.KernelIdeal.Gen.hostOps0 ++ Cert.KernelIdeal.Gen.hostOps0_1) V (Proc.devRef .tc Cert.KernelIdeal.main_v7) = N)
    (hx : after (Cert.KernelIdeal.Gen.hostOps0 ++ Cert.KernelIdeal.Gen.hostOps0_1) V (Proc.devRef .tc Cert.KernelIdeal.main_arg0) = x) :
    after refOps.1 W (Proc.devRef .tc Cert.ReferenceIdeal.main_v24) = RefValue.filled (RefValue.maskOf N) x
    ∧ after refOps.1 W (Proc.devRef .tc Cert.ReferenceIdeal.main_v27) = RefValue.masked (RefValue.maskOf N) := by
  obtain ⟨W', a, e⟩ := (walk0.append walk1) V W h
  have e7 : W' (Proc.devRef .tc Cert.ReferenceIdeal.main_v7) = N :=
    eq_of_heq ((a.at (r := Cert.KernelIdeal.main_v7) ⟨rfl, rfl, rfl, by decide⟩).symm.trans (heq_of_eq hN))
  have e0 : W' (Proc.devRef .tc Cert.ReferenceIdeal.main_arg0) = x :=
    eq_of_heq ((a.at (r := Cert.KernelIdeal.main_arg0) ⟨rfl, rfl, rfl, by decide⟩).symm.trans (heq_of_eq hx))
  rw [e, refTail.2, RefValue.tail_v24, RefValue.tail_v27, e7, e0]
  exact ⟨rfl, rfl⟩

/-- The sequence the kernel keeps is the reference's, filled with zero where its mask is set. -/
theorem kept_eq (N : FVec Ideal Cert.KernelIdeal.S64x1x256 .f32) (x : FVec Ideal Cert.KernelIdeal.S64x32x256x64 .f32) :
    RefValue.filled (RefValue.maskOf N) x = KernelRun.kept N x := by
  funext i
  obtain ⟨b, h, l, d, rfl⟩ : ∃ (b : Fin 64) (h : Fin 32) (l : Fin 256) (d : Fin 64), i = ix4 b h l d :=
    ⟨i 0, i 1, i 2, i 3, by funext a; fin_cases a <;> rfl⟩
  rw [RefValue.filled_apply, KernelRun.kept_apply]
  rfl

/-- The kernel's mask is the reference's. -/
theorem mask_eq (N : FVec Ideal Cert.KernelIdeal.S64x1x256 .f32) :
    RefValue.masked (RefValue.maskOf N) = KernelRun.nonzero (KernelRun.flags N) := by
  funext i
  obtain ⟨b, h, l, rfl⟩ : ∃ (b : Fin 64) (h : Fin 32) (l : Fin 256), i = ix3 b h l :=
    ⟨i 0, i 1, i 2, by funext a; fin_cases a <;> rfl⟩
  rw [RefValue.masked_apply, KernelRun.nonzero_flags]
  rfl

/-- From the same argument the two programs end with the same results. -/
theorem algebraic : Cert.algebraic_KernelIdeal_ReferenceIdeal := by
  intro m g m' g' _ hagree
  refine ⟨_, _, KernelRun.run m g, ?_⟩
  refine θ_run_mono (θ_run_and (RefRun.frame m' g' trivial) (RefRun.run m' g')) ?_
  rintro r ⟨hu, hr⟩ c
  have hV := KernelRun.V_eq m c
  have h := reference (fun b => m (c, b)) (launchContents m' c) (agree_launch _ _ (heq_of_eq (hagree c).symm))
    (Cert.KernelIdeal.Gen.V m c Cert.KernelIdeal.main_v7) (m ((c.tc : Thread Cert.KernelIdeal.nD Cert.KernelIdeal.τ).loc Cert.KernelIdeal.main_arg0))
    (by rw [hV, KernelRun.keeps_v7]) ((KernelRun.keeps_arg0 _).symm.trans ((hV _).symm.trans (Cert.KernelIdeal.Gen.V_main_arg0 m c)))
  refine ⟨?_, ?_, hu.1 c⟩
  · rw [hr, h.1, kept_eq]
  · rw [hr, h.2, mask_eq]

end Cert.Proof.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Algebraic
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, RefRun.frame, trivial,
  Algebraic.algebraic⟩

end Cert.Proof

end
